-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_tables [hPre_lens_tables : Cert.Pre_lens_tables.Facts] (m : (ℓ : Loc Cert.KernelIdeal.nD Cert.KernelIdeal.τ Cert.KernelIdeal.sig) → Buf (Elt Ideal) ℓ) : Prop :=
  ∀ c : Dev Cert.KernelIdeal.nD,
    (Cert.Pre_lens_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_tables [hPre_lens_tables : Cert.Pre_lens_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lens_tables [hKernelIdeal : Cert.KernelIdeal.Facts] [hPre_lens_tables : Cert.Pre_lens_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lens_tables [hReferenceIdeal : Cert.ReferenceIdeal.Facts] [hPre_lens_tables : Cert.Pre_lens_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_lens_tables [hKernelIdeal : Cert.KernelIdeal.Facts] [hReferenceIdeal : Cert.ReferenceIdeal.Facts] [hPre_lens_tables : Cert.Pre_lens_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lens_tables : Cert.Pre_lens_tables.Facts),
    quiescent_Kernel (hKernel := hKernel)
    ∧ quiescent_KernelIdeal (hKernelIdeal := hKernelIdeal)
    ∧ quiescent_KernelIdeal_pre_lens_tables (hKernelIdeal := hKernelIdeal) (hPre_lens_tables := hPre_lens_tables)
    ∧ quiescent_ReferenceIdeal (hReferenceIdeal := hReferenceIdeal)
    ∧ quiescent_ReferenceIdeal_pre_lens_tables (hReferenceIdeal := hReferenceIdeal) (hPre_lens_tables := hPre_lens_tables)
    ∧ preserves_Kernel_KernelIdeal
    ∧ algebraic_KernelIdeal_ReferenceIdeal_pre_lens_tables (hKernelIdeal := hKernelIdeal) (hReferenceIdeal := hReferenceIdeal) (hPre_lens_tables := hPre_lens_tables)
-- ==== Pre_lens_tables.lean ====
abbrev S4x5x512x512 : Shape := ⟨4, ![4, 5, 512, 512]⟩
abbrev S4x1 : Shape := ⟨2, ![4, 1]⟩
abbrev S11x11 : Shape := ⟨2, ![11, 11]⟩

class Facts : Prop where

variable [Facts]

noncomputable abbrev lit0 : Fin 121 → BitVec 32 := fun
  | 0 => 0x40E24630#32 | 1 => 0x40CCE665#32 | 2 => 0x40BA9728#32 | 3 => 0x40AC5345#32 | 4 => 0x40A32B2B#32 | 5 => 0x40A00000#32 | 6 => 0x40A32B2B#32 | 7 => 0x40AC5345#32
  | 8 => 0x40BA9728#32 | 9 => 0x40CCE665#32 | 10 => 0x40E24630#32 | 11 => 0x40CCE665#32 | 12 => 0x40B504F3#32 | 13 => 0x40A00000#32 | 14 => 0x408F1BBD#32 | 15 => 0x4083F07B#32
  | 16 => 0x40800000#32 | 17 => 0x4083F07B#32 | 18 => 0x408F1BBD#32 | 19 => 0x40A00000#32 | 20 => 0x40B504F3#32 | 21 => 0x40CCE665#32 | 22 => 0x40BA9728#32 | 23 => 0x40A00000#32
  | 24 => 0x4087C3B6#32 | 25 => 0x4066C15A#32 | 26 => 0x404A62C2#32 | 27 => 0x40400000#32 | 28 => 0x404A62C2#32 | 29 => 0x4066C15A#32 | 30 => 0x4087C3B6#32 | 31 => 0x40A00000#32
  | 32 => 0x40BA9728#32 | 33 => 0x40AC5345#32 | 34 => 0x408F1BBD#32 | 35 => 0x4066C15A#32 | 36 => 0x403504F3#32 | 37 => 0x400F1BBD#32 | 38 => 0x40000000#32 | 39 => 0x400F1BBD#32
  | 40 => 0x403504F3#32 | 41 => 0x4066C15A#32 | 42 => 0x408F1BBD#32 | 43 => 0x40AC5345#32 | 44 => 0x40A32B2B#32 | 45 => 0x4083F07B#32 | 46 => 0x404A62C2#32 | 47 => 0x400F1BBD#32
  | 48 => 0x3FB504F3#32 | 49 => 0x3F800000#32 | 50 => 0x3FB504F3#32 | 51 => 0x400F1BBD#32 | 52 => 0x404A62C2#32 | 53 => 0x4083F07B#32 | 54 => 0x40A32B2B#32 | 55 => 0x40A00000#32
  | 56 => 0x40800000#32 | 57 => 0x40400000#32 | 58 => 0x40000000#32 | 59 => 0x3F800000#32 | 60 => 0x00000000#32 | 61 => 0x3F800000#32 | 62 => 0x40000000#32 | 63 => 0x40400000#32
  | 64 => 0x40800000#32 | 65 => 0x40A00000#32 | 66 => 0x40A32B2B#32 | 67 => 0x4083F07B#32 | 68 => 0x404A62C2#32 | 69 => 0x400F1BBD#32 | 70 => 0x3FB504F3#32 | 71 => 0x3F800000#32
  | 72 => 0x3FB504F3#32 | 73 => 0x400F1BBD#32 | 74 => 0x404A62C2#32 | 75 => 0x4083F07B#32 | 76 => 0x40A32B2B#32 | 77 => 0x40AC5345#32 | 78 => 0x408F1BBD#32 | 79 => 0x4066C15A#32
  | 80 => 0x403504F3#32 | 81 => 0x400F1BBD#32 | 82 => 0x40000000#32 | 83 => 0x400F1BBD#32 | 84 => 0x403504F3#32 | 85 => 0x4066C15A#32 | 86 => 0x408F1BBD#32 | 87 => 0x40AC5345#32
  | 88 => 0x40BA9728#32 | 89 => 0x40A00000#32 | 90 => 0x4087C3B6#32 | 91 => 0x4066C15A#32 | 92 => 0x404A62C2#32 | 93 => 0x40400000#32 | 94 => 0x404A62C2#32 | 95 => 0x4066C15A#32
  | 96 => 0x4087C3B6#32 | 97 => 0x40A00000#32 | 98 => 0x40BA9728#32 | 99 => 0x40CCE665#32 | 100 => 0x40B504F3#32 | 101 => 0x40A00000#32 | 102 => 0x408F1BBD#32 | 103 => 0x4083F07B#32
  | 104 => 0x40800000#32 | 105 => 0x4083F07B#32 | 106 => 0x408F1BBD#32 | 107 => 0x40A00000#32 | 108 => 0x40B504F3#32 | 109 => 0x40CCE665#32 | 110 => 0x40E24630#32 | 111 => 0x40CCE665#32
  | 112 => 0x40BA9728#32 | 113 => 0x40AC5345#32 | 114 => 0x40A32B2B#32 | 115 => 0x40A00000#32 | 116 => 0x40A32B2B#32 | 117 => 0x40AC5345#32 | 118 => 0x40BA9728#32 | 119 => 0x40CCE665#32
  | 120 => 0x40E24630#32
  | _ => 0#32

noncomputable abbrev lit1 : Fin 121 → BitVec 32 := fun
  | 0 => 0x00000000#32 | 1 => 0x00000000#32 | 2 => 0x00000000#32 | 3 => 0x00000000#32 | 4 => 0x00000000#32 | 5 => 0x3F800000#32 | 6 => 0x00000000#32 | 7 => 0x00000000#32
  | 8 => 0x00000000#32 | 9 => 0x00000000#32 | 10 => 0x00000000#32 | 11 => 0x00000000#32 | 12 => 0x00000000#32 | 13 => 0x3F800000#32 | 14 => 0x3F800000#32 | 15 => 0x3F800000#32
  | 16 => 0x3F800000#32 | 17 => 0x3F800000#32 | 18 => 0x3F800000#32 | 19 => 0x3F800000#32 | 20 => 0x00000000#32 | 21 => 0x00000000#32 | 22 => 0x00000000#32 | 23 => 0x3F800000#32
  | 24 => 0x3F800000#32 | 25 => 0x3F800000#32 | 26 => 0x3F800000#32 | 27 => 0x3F800000#32 | 28 => 0x3F800000#32 | 29 => 0x3F800000#32 | 30 => 0x3F800000#32 | 31 => 0x3F800000#32
  | 32 => 0x00000000#32 | 33 => 0x00000000#32 | 34 => 0x3F800000#32 | 35 => 0x3F800000#32 | 36 => 0x3F800000#32 | 37 => 0x3F800000#32 | 38 => 0x3F800000#32 | 39 => 0x3F800000#32
  | 40 => 0x3F800000#32 | 41 => 0x3F800000#32 | 42 => 0x3F800000#32 | 43 => 0x00000000#32 | 44 => 0x00000000#32 | 45 => 0x3F800000#32 | 46 => 0x3F800000#32 | 47 => 0x3F800000#32
  | 48 => 0x3F800000#32 | 49 => 0x3F800000#32 | 50 => 0x3F800000#32 | 51 => 0x3F800000#32 | 52 => 0x3F800000#32 | 53 => 0x3F800000#32 | 54 => 0x00000000#32 | 55 => 0x3F800000#32
  | 56 => 0x3F800000#32 | 57 => 0x3F800000#32 | 58 => 0x3F800000#32 | 59 => 0x3F800000#32 | 60 => 0x3F800000#32 | 61 => 0x3F800000#32 | 62 => 0x3F800000#32 | 63 => 0x3F800000#32
  | 64 => 0x3F800000#32 | 65 => 0x3F800000#32 | 66 => 0x00000000#32 | 67 => 0x3F800000#32 | 68 => 0x3F800000#32 | 69 => 0x3F800000#32 | 70 => 0x3F800000#32 | 71 => 0x3F800000#32
  | 72 => 0x3F800000#32 | 73 => 0x3F800000#32 | 74 => 0x3F800000#32 | 75 => 0x3F800000#32 | 76 => 0x00000000#32 | 77 => 0x00000000#32 | 78 => 0x3F800000#32 | 79 => 0x3F800000#32
  | 80 => 0x3F800000#32 | 81 => 0x3F800000#32 | 82 => 0x3F800000#32 | 83 => 0x3F800000#32 | 84 => 0x3F800000#32 | 85 => 0x3F800000#32 | 86 => 0x3F800000#32 | 87 => 0x00000000#32
  | 88 => 0x00000000#32 | 89 => 0x3F800000#32 | 90 => 0x3F800000#32 | 91 => 0x3F800000#32 | 92 => 0x3F800000#32 | 93 => 0x3F800000#32 | 94 => 0x3F800000#32 | 95 => 0x3F800000#32
  | 96 => 0x3F800000#32 | 97 => 0x3F800000#32 | 98 => 0x00000000#32 | 99 => 0x00000000#32 | 100 => 0x00000000#32 | 101 => 0x3F800000#32 | 102 => 0x3F800000#32 | 103 => 0x3F800000#32
  | 104 => 0x3F800000#32 | 105 => 0x3F800000#32 | 106 => 0x3F800000#32 | 107 => 0x3F800000#32 | 108 => 0x00000000#32 | 109 => 0x00000000#32 | 110 => 0x00000000#32 | 111 => 0x00000000#32
  | 112 => 0x00000000#32 | 113 => 0x00000000#32 | 114 => 0x00000000#32 | 115 => 0x3F800000#32 | 116 => 0x00000000#32 | 117 => 0x00000000#32 | 118 => 0x00000000#32 | 119 => 0x00000000#32
  | 120 => 0x00000000#32
  | _ => 0#32

def fn {F : FTy → Type} [FloatOps F] (main_arg0 : FVec F S4x5x512x512 .f32) (main_arg1 : FVec F S4x1 .f32) (main_arg2 : FVec F S11x11 .f32) (main_arg3 : FVec F S11x11 .f32) : IVec S11x11 1 :=
  let main_cst : FVec F S11x11 .f32 := fun i => FloatOps.ofBits .f32 (lit0 (S11x11.rowMajor i))
  let main_cst_0 : FVec F S11x11 .f32 := fun i => FloatOps.ofBits .f32 (lit1 (S11x11.rowMajor i))
  let main_v0 : IVec S11x11 1 := cmpf .oeq main_arg2 main_cst
  let main_v1 : IVec S11x11 1 := cmpf .oeq main_arg3 main_cst_0
  let main_v2 : IVec S11x11 1 := andi main_v0 main_v1
  main_v2
-- ==== Kernel.lean ====
abbrev S4x5x512x512 : Shape := ⟨4, ![4, 5, 512, 512]⟩
abbrev S4x1 : Shape := ⟨2, ![4, 1]⟩
abbrev S11x11 : Shape := ⟨2, ![11, 11]⟩
abbrev S4x1x512x512 : Shape := ⟨4, ![4, 1, 512, 512]⟩
abbrev S4x512x512 : Shape := ⟨3, ![4, 512, 512]⟩
abbrev S1x512x512 : Shape := ⟨3, ![1, 512, 512]⟩
abbrev S1x1 : Shape := ⟨2, ![1, 1]⟩
abbrev S_ : Shape := ⟨0, ![]⟩
abbrev S1x0x512x512 : Shape := ⟨4, ![1, 0, 512, 512]⟩
abbrev S0x512x512 : Shape := ⟨3, ![0, 512, 512]⟩
abbrev S4x1x512 : Shape := ⟨3, ![4, 1, 512]⟩
abbrev S4x1x5x512 : Shape := ⟨4, ![4, 1, 5, 512]⟩
abbrev S4x5x512 : Shape := ⟨3, ![4, 5, 512]⟩
abbrev S4x522x512 : Shape := ⟨3, ![4, 522, 512]⟩
abbrev S4x522x1 : Shape := ⟨3, ![4, 522, 1]⟩
abbrev S4x522x1x5 : Shape := ⟨4, ![4, 522, 1, 5]⟩
abbrev S4x522x5 : Shape := ⟨3, ![4, 522, 5]⟩
abbrev S4x522x522 : Shape := ⟨3, ![4, 522, 522]⟩
abbrev S4x528x640 : Shape := ⟨3, ![4, 528, 640]⟩
abbrev S4x4x512x512 : Shape := ⟨4, ![4, 4, 512, 512]⟩
abbrev S1x4x512x512 : Shape := ⟨4, ![1, 4, 512, 512]⟩
abbrev S1x0x4x512x512 : Shape := ⟨5, ![1, 0, 4, 512, 512]⟩
abbrev S0x4x512x512 : Shape := ⟨4, ![0, 4, 512, 512]⟩
abbrev S4x1x0x512x512 : Shape := ⟨5, ![4, 1, 0, 512, 512]⟩
abbrev S4x0x512x512 : Shape := ⟨4, ![4, 0, 512, 512]⟩
abbrev S4x4x1x512 : Shape := ⟨4, ![4, 4, 1, 512]⟩
abbrev S4x4x1x5x512 : Shape := ⟨5, ![4, 4, 1, 5, 512]⟩
abbrev S4x4x5x512 : Shape := ⟨4, ![4, 4, 5, 512]⟩
abbrev S4x4x522x512 : Shape := ⟨4, ![4, 4, 522, 512]⟩
abbrev S4x4x522x1 : Shape := ⟨4, ![4, 4, 522, 1]⟩
abbrev S4x4x522x1x5 : Shape := ⟨5, ![4, 4, 522, 1, 5]⟩
abbrev S4x4x522x5 : Shape := ⟨4, ![4, 4, 522, 5]⟩
abbrev S4x4x522x522 : Shape := ⟨4, ![4, 4, 522, 522]⟩
abbrev S4x4x528x640 : Shape := ⟨4, ![4, 4, 528, 640]⟩
abbrev S4x3x512x512 : Shape := ⟨4, ![4, 3, 512, 512]⟩
abbrev S1x528x640 : Shape := ⟨3, ![1, 528, 640]⟩
abbrev S1x4x528x640 : Shape := ⟨4, ![1, 4, 528, 640]⟩
abbrev S1x3x64x512 : Shape := ⟨4, ![1, 3, 64, 512]⟩
abbrev S1x80x640 : Shape := ⟨3, ![1, 80, 640]⟩
abbrev S80x640 : Shape := ⟨2, ![80, 640]⟩
abbrev S1x4x80x640 : Shape := ⟨4, ![1, 4, 80, 640]⟩
abbrev S4x80x640 : Shape := ⟨3, ![4, 80, 640]⟩
abbrev S64x640 : Shape := ⟨2, ![64, 640]⟩
abbrev S1x64x640 : Shape := ⟨3, ![1, 64, 640]⟩
abbrev S64x512 : Shape := ⟨2, ![64, 512]⟩
abbrev S1x64x512 : Shape := ⟨3, ![1, 64, 512]⟩
abbrev S3x64x512 : Shape := ⟨3, ![3, 64, 512]⟩
abbrev S1x1x64x512 : Shape := ⟨4, ![1, 1, 64, 512]⟩

abbrev nBuf : Space → Nat
  | .hbm => 66
  | .vmem => 10
  | .smem => 1
  | _ => 0

abbrev bufTy : (tb : Table) → Fin (tcTables nBuf tb) → BufTy
  | .hbm, ⟨0, _⟩ => ⟨S4x5x512x512, .f32⟩
  | .hbm, ⟨1, _⟩ => ⟨S4x1, .f32⟩
  | .hbm, ⟨2, _⟩ => ⟨S11x11, .f32⟩
  | .hbm, ⟨3, _⟩ => ⟨S11x11, .f32⟩
  | .hbm, ⟨4, _⟩ => ⟨S4x1x512x512, .f32⟩
  | .hbm, ⟨5, _⟩ => ⟨S4x512x512, .f32⟩
  | .hbm, ⟨6, _⟩ => ⟨S4x512x512, .f32⟩
  | .hbm, ⟨7, _⟩ => ⟨S_, .i32⟩
  | .hbm, ⟨8, _⟩ => ⟨S1x512x512, .f32⟩
  | .hbm, ⟨9, _⟩ => ⟨S1x0x512x512, .f32⟩
  | .hbm, ⟨10, _⟩ => ⟨S0x512x512, .f32⟩
  | .hbm, ⟨11, _⟩ => ⟨S1x512x512, .f32⟩
  | .hbm, ⟨12, _⟩ => ⟨S1x0x512x512, .f32⟩
  | .hbm, ⟨13, _⟩ => ⟨S0x512x512, .f32⟩
  | .hbm, ⟨14, _⟩ => ⟨S4x512x512, .f32⟩
  | .hbm, ⟨15, _⟩ => ⟨S4x1x512, .f32⟩
  | .hbm, ⟨16, _⟩ => ⟨S4x1x5x512, .f32⟩
  | .hbm, ⟨17, _⟩ => ⟨S4x5x512, .f32⟩
  | .hbm, ⟨18, _⟩ => ⟨S4x1x512, .f32⟩
  | .hbm, ⟨19, _⟩ => ⟨S4x1x5x512, .f32⟩
  | .hbm, ⟨20, _⟩ => ⟨S4x5x512, .f32⟩
  | .hbm, ⟨21, _⟩ => ⟨S4x522x512, .f32⟩
  | .hbm, ⟨22, _⟩ => ⟨S4x522x1, .f32⟩
  | .hbm, ⟨23, _⟩ => ⟨S4x522x1x5, .f32⟩
  | .hbm, ⟨24, _⟩ => ⟨S4x522x5, .f32⟩
  | .hbm, ⟨25, _⟩ => ⟨S4x522x1, .f32⟩
  | .hbm, ⟨26, _⟩ => ⟨S4x522x1x5, .f32⟩
  | .hbm, ⟨27, _⟩ => ⟨S4x522x5, .f32⟩
  | .hbm, ⟨28, _⟩ => ⟨S4x522x522, .f32⟩
  | .hbm, ⟨29, _⟩ => ⟨S_, .i32⟩
  | .hbm, ⟨30, _⟩ => ⟨S_, .f32⟩
  | .hbm, ⟨31, _⟩ => ⟨S4x528x640, .f32⟩
  | .hbm, ⟨32, _⟩ => ⟨S4x4x512x512, .f32⟩
  | .hbm, ⟨33, _⟩ => ⟨S_, .i32⟩
  | .hbm, ⟨34, _⟩ => ⟨S1x4x512x512, .f32⟩
  | .hbm, ⟨35, _⟩ => ⟨S1x0x4x512x512, .f32⟩
  | .hbm, ⟨36, _⟩ => ⟨S0x4x512x512, .f32⟩
  | .hbm, ⟨37, _⟩ => ⟨S1x4x512x512, .f32⟩
  | .hbm, ⟨38, _⟩ => ⟨S1x0x4x512x512, .f32⟩
  | .hbm, ⟨39, _⟩ => ⟨S0x4x512x512, .f32⟩
  | .hbm, ⟨40, _⟩ => ⟨S4x4x512x512, .f32⟩
  | .hbm, ⟨41, _⟩ => ⟨S4x1x512x512, .f32⟩
  | .hbm, ⟨42, _⟩ => ⟨S4x1x0x512x512, .f32⟩
  | .hbm, ⟨43, _⟩ => ⟨S4x0x512x512, .f32⟩
  | .hbm, ⟨44, _⟩ => ⟨S4x1x512x512, .f32⟩
  | .hbm, ⟨45, _⟩ => ⟨S4x1x0x512x512, .f32⟩
  | .hbm, ⟨46, _⟩ => ⟨S4x0x512x512, .f32⟩
  | .hbm, ⟨47, _⟩ => ⟨S4x4x512x512, .f32⟩
  | .hbm, ⟨48, _⟩ => ⟨S4x4x1x512, .f32⟩
  | .hbm, ⟨49, _⟩ => ⟨S4x4x1x5x512, .f32⟩
  | .hbm, ⟨50, _⟩ => ⟨S4x4x5x512, .f32⟩
  | .hbm, ⟨51, _⟩ => ⟨S4x4x1x512, .f32⟩
  | .hbm, ⟨52, _⟩ => ⟨S4x4x1x5x512, .f32⟩
  | .hbm, ⟨53, _⟩ => ⟨S4x4x5x512, .f32⟩
  | .hbm, ⟨54, _⟩ => ⟨S4x4x522x512, .f32⟩
  | .hbm, ⟨55, _⟩ => ⟨S4x4x522x1, .f32⟩
  | .hbm, ⟨56, _⟩ => ⟨S4x4x522x1x5, .f32⟩
  | .hbm, ⟨57, _⟩ => ⟨S4x4x522x5, .f32⟩
  | .hbm, ⟨58, _⟩ => ⟨S4x4x522x1, .f32⟩
  | .hbm, ⟨59, _⟩ => ⟨S4x4x522x1x5, .f32⟩
  | .hbm, ⟨60, _⟩ => ⟨S4x4x522x5, .f32⟩
  | .hbm, ⟨61, _⟩ => ⟨S4x4x522x522, .f32⟩
  | .hbm, ⟨62, _⟩ => ⟨S_, .i32⟩
  | .hbm, ⟨63, _⟩ => ⟨S_, .f32⟩
  | .hbm, ⟨64, _⟩ => ⟨S4x4x528x640, .f32⟩
  | .hbm, ⟨65, _⟩ => ⟨S4x3x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x528x640, .f32⟩
  | .local _ .vmem, ⟨5, _⟩ => ⟨S1x528x640, .f32⟩
  | .local _ .vmem, ⟨6, _⟩ => ⟨S1x4x528x640, .f32⟩
  | .local _ .vmem, ⟨7, _⟩ => ⟨S1x4x528x640, .f32⟩
  | .local _ .vmem, ⟨8, _⟩ => ⟨S1x3x64x512, .f32⟩
  | .local _ .vmem, ⟨9, _⟩ => ⟨S1x3x64x512, .f32⟩
  | .local _ .smem, ⟨0, _⟩ => ⟨S4x1, .f32⟩
  | _, _ => ⟨S4x5x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_call2_v15 : Ref sig .tc := ⟨.hbm, 49, rfl⟩
abbrev main_call2_v16 : Ref sig .tc := ⟨.hbm, 50, rfl⟩
abbrev main_call2_v17 : Ref sig .tc := ⟨.hbm, 51, rfl⟩
abbrev main_call2_v18 : Ref sig .tc := ⟨.hbm, 52, rfl⟩
abbrev main_call2_v19 : Ref sig .tc := ⟨.hbm, 53, rfl⟩
abbrev main_call2_v20 : Ref sig .tc := ⟨.hbm, 54, rfl⟩
abbrev main_call2_v21 : Ref sig .tc := ⟨.hbm, 55, rfl⟩
abbrev main_call2_v22 : Ref sig .tc := ⟨.hbm, 56, rfl⟩
abbrev main_call2_v23 : Ref sig .tc := ⟨.hbm, 57, rfl⟩
abbrev main_call2_v24 : Ref sig .tc := ⟨.hbm, 58, rfl⟩
abbrev main_call2_v25 : Ref sig .tc := ⟨.hbm, 59, rfl⟩
abbrev main_call2_v26 : Ref sig .tc := ⟨.hbm, 60, rfl⟩
abbrev main_v6 : Ref sig .tc := ⟨.hbm, 61, rfl⟩
abbrev main_c_2 : Ref sig .tc := ⟨.hbm, 62, rfl⟩
abbrev main_call3_v0 : Ref sig .tc := ⟨.hbm, 63, rfl⟩
abbrev main_v7 : Ref sig .tc := ⟨.hbm, 64, rfl⟩
abbrev main_v8 : Ref sig .tc := ⟨.hbm, 65, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v3 : Index := Scalar.indexCast arg0
  let c0_2 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c64_i32 : BitVec 32 := 64#32
  let v0 : BitVec 32 := Scalar.muli arg1 c64_i32
  v0
def k1_off1 (i : grid1.Coords) : Fin 3 → Nat :=
  let c0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_0 : Index := 0#32
  ![0, v2.toNat, 0]
def k1_off2 (i : grid1.Coords) : Fin 4 → Nat :=
  let c0_1 : Index := 0#32
  let c0_2 : Index := 0#32
  let arg1 : BitVec 32 := BitVec.ofNat 32 (i 1).val
  let c64_i32 : BitVec 32 := 64#32
  let v0 : BitVec 32 := Scalar.muli arg1 c64_i32
  let v1 : BitVec 32 := v0
  let v5 : Index := Scalar.indexCast v1
  let c0_3 : Index := 0#32
  ![0, 0, v5.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x528x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4x528x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S4x5x512x512 : Shape := ⟨4, ![4, 5, 512, 512]⟩
abbrev S4x1 : Shape := ⟨2, ![4, 1]⟩
abbrev S11x11 : Shape := ⟨2, ![11, 11]⟩
abbrev S4x1x512x512 : Shape := ⟨4, ![4, 1, 512, 512]⟩
abbrev S4x1x1x1 : Shape := ⟨4, ![4, 1, 1, 1]⟩
abbrev S4x4x512x512 : Shape := ⟨4, ![4, 4, 512, 512]⟩
abbrev S4x5x1x512 : Shape := ⟨4, ![4, 5, 1, 512]⟩
abbrev S4x5x5x512 : Shape := ⟨4, ![4, 5, 5, 512]⟩
abbrev S4x5x522x512 : Shape := ⟨4, ![4, 5, 522, 512]⟩
abbrev S4x5x522x1 : Shape := ⟨4, ![4, 5, 522, 1]⟩
abbrev S4x5x522x5 : Shape := ⟨4, ![4, 5, 522, 5]⟩
abbrev S4x5x522x522 : Shape := ⟨4, ![4, 5, 522, 522]⟩
abbrev S4x5x512x522 : Shape := ⟨4, ![4, 5, 512, 522]⟩
abbrev S4x5x1x512x522 : Shape := ⟨5, ![4, 5, 1, 512, 522]⟩
abbrev S4x5x11x512x522 : Shape := ⟨5, ![4, 5, 11, 512, 522]⟩
abbrev S4x5x11x512x512 : Shape := ⟨5, ![4, 5, 11, 512, 512]⟩
abbrev S4x5x11x1x512x512 : Shape := ⟨6, ![4, 5, 11, 1, 512, 512]⟩
abbrev S4x5x11x11x512x512 : Shape := ⟨6, ![4, 5, 11, 11, 512, 512]⟩
abbrev S4x1x11x11x512x512 : Shape := ⟨6, ![4, 1, 11, 11, 512, 512]⟩
abbrev S11x11x1x1 : Shape := ⟨4, ![11, 11, 1, 1]⟩
abbrev S1x1x11x11x1x1 : Shape := ⟨6, ![1, 1, 11, 11, 1, 1]⟩
abbrev S_ : Shape := ⟨0, ![]⟩
abbrev S4x3x11x11x512x512 : Shape := ⟨6, ![4, 3, 11, 11, 512, 512]⟩
abbrev S4x3x512x512 : Shape := ⟨4, ![4, 3, 512, 512]⟩

abbrev nBuf : Space → Nat
  | .hbm => 101
  | .vmem => 0
  | .smem => 0
  | _ => 0

abbrev bufTy : (tb : Table) → Fin (tcTables nBuf tb) → BufTy
  | .hbm, ⟨0, _⟩ => ⟨S4x5x512x512, .f32⟩
  | .hbm, ⟨1, _⟩ => ⟨S4x1, .f32⟩
  | .hbm, ⟨2, _⟩ => ⟨S11x11, .f32⟩
  | .hbm, ⟨3, _⟩ => ⟨S11x11, .f32⟩
  | .hbm, ⟨4, _⟩ => ⟨S4x1x512x512, .f32⟩
  | .hbm, ⟨5, _⟩ => ⟨S4x1x512x512, .f32⟩
  | .hbm, ⟨6, _⟩ => ⟨S4x1x1x1, .f32⟩
  | .hbm, ⟨7, _⟩ => ⟨S4x1x512x512, .f32⟩
  | .hbm, ⟨8, _⟩ => ⟨S4x1x512x512, .f32⟩
  | .hbm, ⟨9, _⟩ => ⟨S4x4x512x512, .f32⟩
  | .hbm, ⟨10, _⟩ => ⟨S4x5x512x512, .f32⟩
  | .hbm, ⟨11, _⟩ => ⟨S4x5x1x512, .f32⟩
  | .hbm, ⟨12, _⟩ => ⟨S4x5x5x512, .f32⟩
  | .hbm, ⟨13, _⟩ => ⟨S4x5x1x512, .f32⟩
  | .hbm, ⟨14, _⟩ => ⟨S4x5x5x512, .f32⟩
  | .hbm, ⟨15, _⟩ => ⟨S4x5x522x512, .f32⟩
  | .hbm, ⟨16, _⟩ => ⟨S4x5x522x1, .f32⟩
  | .hbm, ⟨17, _⟩ => ⟨S4x5x522x5, .f32⟩
  | .hbm, ⟨18, _⟩ => ⟨S4x5x522x1, .f32⟩
  | .hbm, ⟨19, _⟩ => ⟨S4x5x522x5, .f32⟩
  | .hbm, ⟨20, _⟩ => ⟨S4x5x522x522, .f32⟩
  | .hbm, ⟨21, _⟩ => ⟨S4x5x512x522, .f32⟩
  | .hbm, ⟨22, _⟩ => ⟨S4x5x512x522, .f32⟩
  | .hbm, ⟨23, _⟩ => ⟨S4x5x512x522, .f32⟩
  | .hbm, ⟨24, _⟩ => ⟨S4x5x512x522, .f32⟩
  | .hbm, ⟨25, _⟩ => ⟨S4x5x512x522, .f32⟩
  | .hbm, ⟨26, _⟩ => ⟨S4x5x512x522, .f32⟩
  | .hbm, ⟨27, _⟩ => ⟨S4x5x512x522, .f32⟩
  | .hbm, ⟨28, _⟩ => ⟨S4x5x512x522, .f32⟩
  | .hbm, ⟨29, _⟩ => ⟨S4x5x512x522, .f32⟩
  | .hbm, ⟨30, _⟩ => ⟨S4x5x512x522, .f32⟩
  | .hbm, ⟨31, _⟩ => ⟨S4x5x512x522, .f32⟩
  | .hbm, ⟨32, _⟩ => ⟨S4x5x1x512x522, .f32⟩
  | .hbm, ⟨33, _⟩ => ⟨S4x5x1x512x522, .f32⟩
  | .hbm, ⟨34, _⟩ => ⟨S4x5x1x512x522, .f32⟩
  | .hbm, ⟨35, _⟩ => ⟨S4x5x1x512x522, .f32⟩
  | .hbm, ⟨36, _⟩ => ⟨S4x5x1x512x522, .f32⟩
  | .hbm, ⟨37, _⟩ => ⟨S4x5x1x512x522, .f32⟩
  | .hbm, ⟨38, _⟩ => ⟨S4x5x1x512x522, .f32⟩
  | .hbm, ⟨39, _⟩ => ⟨S4x5x1x512x522, .f32⟩
  | .hbm, ⟨40, _⟩ => ⟨S4x5x1x512x522, .f32⟩
  | .hbm, ⟨41, _⟩ => ⟨S4x5x1x512x522, .f32⟩
  | .hbm, ⟨42, _⟩ => ⟨S4x5x1x512x522, .f32⟩
  | .hbm, ⟨43, _⟩ => ⟨S4x5x11x512x522, .f32⟩
  | .hbm, ⟨44, _⟩ => ⟨S4x5x11x512x512, .f32⟩
  | .hbm, ⟨45, _⟩ => ⟨S4x5x11x512x512, .f32⟩
  | .hbm, ⟨46, _⟩ => ⟨S4x5x11x512x512, .f32⟩
  | .hbm, ⟨47, _⟩ => ⟨S4x5x11x512x512, .f32⟩
  | .hbm, ⟨48, _⟩ => ⟨S4x5x11x512x512, .f32⟩
  | .hbm, ⟨49, _⟩ => ⟨S4x5x11x512x512, .f32⟩
  | .hbm, ⟨50, _⟩ => ⟨S4x5x11x512x512, .f32⟩
  | .hbm, ⟨51, _⟩ => ⟨S4x5x11x512x512, .f32⟩
  | .hbm, ⟨52, _⟩ => ⟨S4x5x11x512x512, .f32⟩
  | .hbm, ⟨53, _⟩ => ⟨S4x5x11x512x512, .f32⟩
  | .hbm, ⟨54, _⟩ => ⟨S4x5x11x512x512, .f32⟩
  | .hbm, ⟨55, _⟩ => ⟨S4x5x11x1x512x512, .f32⟩
  | .hbm, ⟨56, _⟩ => ⟨S4x5x11x1x512x512, .f32⟩
  | .hbm, ⟨57, _⟩ => ⟨S4x5x11x1x512x512, .f32⟩
  | .hbm, ⟨58, _⟩ => ⟨S4x5x11x1x512x512, .f32⟩
  | .hbm, ⟨59, _⟩ => ⟨S4x5x11x1x512x512, .f32⟩
  | .hbm, ⟨60, _⟩ => ⟨S4x5x11x1x512x512, .f32⟩
  | .hbm, ⟨61, _⟩ => ⟨S4x5x11x1x512x512, .f32⟩
  | .hbm, ⟨62, _⟩ => ⟨S4x5x11x1x512x512, .f32⟩
  | .hbm, ⟨63, _⟩ => ⟨S4x5x11x1x512x512, .f32⟩
  | .hbm, ⟨64, _⟩ => ⟨S4x5x11x1x512x512, .f32⟩
  | .hbm, ⟨65, _⟩ => ⟨S4x5x11x1x512x512, .f32⟩
  | .hbm, ⟨66, _⟩ => ⟨S4x5x11x11x512x512, .f32⟩
  | .hbm, ⟨67, _⟩ => ⟨S4x1x11x11x512x512, .f32⟩
  | .hbm, ⟨68, _⟩ => ⟨S11x11x1x1, .f32⟩
  | .hbm, ⟨69, _⟩ => ⟨S1x1x11x11x1x1, .f32⟩
  | .hbm, ⟨70, _⟩ => ⟨S4x1x11x11x512x512, .f32⟩
  | .hbm, ⟨71, _⟩ => ⟨S4x1x11x11x512x512, .f32⟩
  | .hbm, ⟨72, _⟩ => ⟨S_, .f32⟩
  | .hbm, ⟨73, _⟩ => ⟨S4x1x11x11x512x512, .f32⟩
  | .hbm, ⟨74, _⟩ => ⟨S4x1x11x11x512x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4x1x11x11x512x512, .f32⟩
  | .hbm, ⟨79, _⟩ => ⟨S4x1x11x11x512x512, .f32⟩
  | .hbm, ⟨80, _⟩ => ⟨S_, .f32⟩
  | .hbm, ⟨81, _⟩ => ⟨S4x1x11x11x512x512, .f32⟩
  | .hbm, ⟨82, _⟩ => ⟨S4x1x11x11x512x512, .f32⟩
  | .hbm, ⟨83, _⟩ => ⟨S11x11x1x1, .f32⟩
  | .hbm, ⟨84, _⟩ => ⟨S1x1x11x11x1x1, .f32⟩
  | .hbm, ⟨85, _⟩ => ⟨S4x1x11x11x512x512, .f32⟩
  | .hbm, ⟨86, _⟩ => ⟨S4x1x11x11x512x512, .f32⟩
  | .hbm, ⟨87, _⟩ => ⟨S4x1x11x11x512x512, .f32⟩
  | .hbm, ⟨88, _⟩ => ⟨S4x1x11x11x512x512, .f32⟩
  | .hbm, ⟨89, _⟩ => ⟨S4x3x11x11x512x512, .f32⟩
  | .hbm, ⟨90, _⟩ => ⟨S4x3x11x11x512x512, .f32⟩
  | .hbm, ⟨91, _⟩ => ⟨S4x3x11x11x512x512, .f32⟩
  | .hbm, ⟨92, _⟩ => ⟨S_, .f32⟩
  | .hbm, ⟨93, _⟩ => ⟨S4x3x512x512, .f32⟩
  | .hbm, ⟨94, _⟩ => ⟨S_, .f32⟩
  | .hbm, ⟨95, _⟩ => ⟨S4x1x512x512, .f32⟩
  | .hbm, ⟨96, _⟩ => ⟨S_, .f32⟩
  | .hbm, ⟨97, _⟩ => ⟨S4x1x512x512, .f32⟩
  | .hbm, ⟨98, _⟩ => ⟨S4x1x512x512, .f32⟩
  | .hbm, ⟨99, _⟩ => ⟨S4x3x512x512, .f32⟩
  | .hbm, ⟨100, _⟩ => ⟨S4x3x512x512, .f32⟩
  | _, _ => ⟨S4x5x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_cst : Ref sig .tc := ⟨.hbm, 72, rfl⟩
abbrev main_v68 : Ref sig .tc := ⟨.hbm, 73, rfl⟩
abbrev main_v69 : Ref sig .tc := ⟨.hbm, 74, rfl⟩
abbrev main_cst_0 : Ref sig .tc := ⟨.hbm, 75, rfl⟩
abbrev main_cst_1 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_2 : Ref sig .tc := ⟨.hbm, 92, rfl⟩
abbrev main_v80 : Ref sig .tc := ⟨.hbm, 93, rfl⟩
abbrev main_cst_3 : Ref sig .tc := ⟨.hbm, 94, rfl⟩
abbrev main_v81 : Ref sig .tc := ⟨.hbm, 95, rfl⟩
abbrev main_cst_4 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩

abbrev nD : Nat := 1
abbrev τ : Topo := Topo.v7x

variable {F : FTy → Type} [FloatOps F]
-- ==== Proof.KernelIdealBody.lean ====
/- The two kernel bodies of the program: each runs at every grid point, and what its output block then holds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The block of window `w` of region 0 at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0 holds its block at every grid point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0 holds its block at every grid point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev VO0_2 : View sig .tc .vmem S1x512x512 .f32 := (Memref.whole cc0_stg2_0 : Memref sig .tc .vmem S1x512x512 .f32).view
abbrev ms0_0 (t : Fin cfg0.N) : Memref sig .tc .smem S4x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)

set_option maxHeartbeats 1000000 in
/-- What the body of region 0 writes to its output block, with the proof that the body runs and leaves its inputs alone. -/
noncomputable def kernelRun0_A (c : Dev nD) (i : grid0.Coords) (arg1 : Memref sig .tc .smem S4x1 .f32) (harg1 : arg1.IsWhole) (arg2 : Memref sig .tc .vmem S1x512x512 .f32) (harg2 : arg2.IsWhole) (arg3 : Memref sig .tc .vmem S1x512x512 .f32) (harg3 : arg3.IsWhole)
    (x0 : Vec F S4x1 .f32) (x1 : Vec F S1x512x512 .f32) :
    { L2 : List (View.Piece (Elt F) S1x512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__prep_body i arg1 harg1 arg2 harg2 arg3 harg3) K } := by
  refine ⟨?_, fun E K => ?run⟩
  case run =>
    simp only [cc0__prep_body_eq_skeleton]; unfold cc0__prep_body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The writes of region 0 fill its output block. -/
theorem cover0_A_2 (c : Dev nD) (i : grid0.Coords) (arg1 : Memref sig .tc .smem S4x1 .f32) (harg1 : arg1.IsWhole) (arg2 : Memref sig .tc .vmem S1x512x512 .f32) (harg2 : arg2.IsWhole) (arg3 : Memref sig .tc .vmem S1x512x512 .f32) (harg3 : arg3.IsWhole)
    (x0 : Vec F S4x1 .f32) (x1 : Vec F S1x512x512 .f32) (y : S1x512x512.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x512x512.size (by sl_kernel_rfl) y

/-- The output block of region 0 after the body. -/
def out0_A_2 (c : Dev nD) (i : grid0.Coords) (arg1 : Memref sig .tc .smem S4x1 .f32) (harg1 : arg1.IsWhole) (arg2 : Memref sig .tc .vmem S1x512x512 .f32) (harg2 : arg2.IsWhole) (arg3 : Memref sig .tc .vmem S1x512x512 .f32) (harg3 : arg3.IsWhole)
    (x0 : Vec F S4x1 .f32) (x1 : Vec F S1x512x512 .f32) : Vec F S1x512x512 .f32 :=
  VO0_2.read (Elt F) (VO0_2.writes (Elt F) VO0_2.junk (kernelRun0_A c i arg1 harg1 arg2 harg2 arg3 harg3 x0 x1).1)

/-- The output block of region 0 at grid point `t`. -/
def outsAt0 (c : Dev nD) (t : Fin cfg0.N) : Vec F S1x512x512 .f32 :=
  out0_A_2 c (grid0.coords t) (ms0_0 t) (hs0_0 t) (ms0_1 t) (hs0_1 t) (ms0_2 t) (hs0_2 t) (iblk0 V c 0 t) (iblk0 V c 1 t)

/-- The proof data of region 0: inputs stay, the output block is what the body writes. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body of region 0 at any grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of window `w` of region 1 at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1 holds its block at every grid point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1 holds its block at every grid point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x3x64x512 .f32 := (Memref.whole cc1_stg2_0 : Memref sig .tc .vmem S1x3x64x512 .f32).view
abbrev ms1_0 (t : Fin cfg1.N) : Memref sig .tc .vmem S1x528x640 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x528x640 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3x64x512 .f32 := win1_2.stage (cfg1.slots t 2)
abbrev hs1_2 (t : Fin cfg1.N) : (ms1_2 t).IsWhole := hstage1_2 ((cfg1.slots t 2).cast nbuf1_2)

set_option maxHeartbeats 1000000 in
/-- What the body of region 1 writes to its output block, with the proof that the body runs and leaves its inputs alone. -/
noncomputable def kernelRun1_A (c : Dev nD) (i : grid1.Coords) (arg2 : Memref sig .tc .vmem S1x528x640 .f32) (harg2 : arg2.IsWhole) (arg3 : Memref sig .tc .vmem S1x4x528x640 .f32) (harg3 : arg3.IsWhole) (arg4 : Memref sig .tc .vmem S1x3x64x512 .f32) (harg4 : arg4.IsWhole)
    (x0 : Vec F S1x528x640 .f32) (x1 : Vec F S1x4x528x640 .f32) :
    { L2 : List (View.Piece (Elt F) S1x3x64x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__lambda_ i arg2 harg2 arg3 harg3 arg4 harg4) K } := by
  refine ⟨?_, fun E K => ?run⟩
  case run =>
    simp only [cc1__lambda__eq_skeleton]; unfold cc1__lambda__skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The writes of region 1 fill its output block. -/
theorem cover1_A_2 (c : Dev nD) (i : grid1.Coords) (arg2 : Memref sig .tc .vmem S1x528x640 .f32) (harg2 : arg2.IsWhole) (arg3 : Memref sig .tc .vmem S1x4x528x640 .f32) (harg3 : arg3.IsWhole) (arg4 : Memref sig .tc .vmem S1x3x64x512 .f32) (harg4 : arg4.IsWhole)
    (x0 : Vec F S1x528x640 .f32) (x1 : Vec F S1x4x528x640 .f32) (y : S1x3x64x512.Idx) :
    ∃ pc ∈ (kernelRun1_A c i arg2 harg2 arg3 harg3 arg4 harg4 x0 x1).1, y ∈ pc.1.set :=
  View.cover_of_tiledL (kernelRun1_A c i arg2 harg2 arg3 harg3 arg4 harg4 x0 x1).1 S1x3x64x512.size (by sl_kernel_rfl) y

/-- The output block of region 1 after the body. -/
def out1_A_2 (c : Dev nD) (i : grid1.Coords) (arg2 : Memref sig .tc .vmem S1x528x640 .f32) (harg2 : arg2.IsWhole) (arg3 : Memref sig .tc .vmem S1x4x528x640 .f32) (harg3 : arg3.IsWhole) (arg4 : Memref sig .tc .vmem S1x3x64x512 .f32) (harg4 : arg4.IsWhole)
    (x0 : Vec F S1x528x640 .f32) (x1 : Vec F S1x4x528x640 .f32) : Vec F S1x3x64x512 .f32 :=
  VO1_2.read (Elt F) (VO1_2.writes (Elt F) VO1_2.junk (kernelRun1_A c i arg2 harg2 arg3 harg3 arg4 harg4 x0 x1).1)

/-- The output block of region 1 at grid point `t`. -/
def outsAt1 (c : Dev nD) (t : Fin cfg1.N) : Vec F S1x3x64x512 .f32 :=
  out1_A_2 c (grid1.coords t) (ms1_0 t) (hs1_0 t) (ms1_1 t) (hs1_1 t) (ms1_2 t) (hs1_2 t) (iblk1 V c 0 t) (iblk1 V c 1 t)

/-- The proof data of region 1: inputs stay, the output block is what the body writes. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body of region 1 at any grid point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KernelIdealRun.lean ====
/- The run of the whole program: the host operations, the first region, the padding, the second region. -/
module

public import proofs.«01_k».proof.Proof.KernelIdealBody

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The arrays that `hostOps1` writes. -/
abbrev hostOps1_W : List (Ref sig .tc) := [main_c]
theorem hostOps1_writes : (hostOps1 : List (HloOp τ sig (Elt F))).Forall fun op => op.writes ⊆ (hostOps1_W.map (Proc.devRef (τ := τ) .tc)).toFinset :=
  StableHlo.forall_writes_sub_of_map rfl

theorem hostOps1_1_fresh : (hostOps1_1 : List (HloOp τ sig (Elt F))).Forall fun op => op.fresh = ∅ := by
  simp only [List.Forall]; repeat' constructor
/-- The arrays that `hostOps1_1` writes. -/
abbrev hostOps1_1_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_v3]
theorem hostOps1_1_writes : (hostOps1_1 : List (HloOp τ sig (Elt F))).Forall fun op => op.writes ⊆ (hostOps1_1_W.map (Proc.devRef (τ := τ) .tc)).toFinset :=
  StableHlo.forall_writes_sub_of_map rfl

theorem hostOps1_2_fresh : (hostOps1_2 : List (HloOp τ sig (Elt F))).Forall fun op => op.fresh = ∅ := by
  simp only [List.Forall]; repeat' constructor
/-- The arrays that `hostOps1_2` writes. -/
abbrev hostOps1_2_W : List (Ref sig .tc) := [main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl

theorem hostOps1_3_fresh : (hostOps1_3 : List (HloOp τ sig (Elt F))).Forall fun op => op.fresh = ∅ := by
  simp only [List.Forall]; repeat' constructor
/-- The arrays that `hostOps1_3` writes. -/
abbrev hostOps1_3_W : List (Ref sig .tc) := [main_call1_v0, main_v4]
theorem hostOps1_3_writes : (hostOps1_3 : List (HloOp τ sig (Elt F))).Forall fun op => op.writes ⊆ (hostOps1_3_W.map (Proc.devRef (τ := τ) .tc)).toFinset :=
  StableHlo.forall_writes_sub_of_map rfl

theorem hostOps1_4_fresh : (hostOps1_4 : List (HloOp τ sig (Elt F))).Forall fun op => op.fresh = ∅ := by
  simp only [List.Forall]; repeat' constructor
/-- The arrays that `hostOps1_4` writes. -/
abbrev hostOps1_4_W : List (Ref sig .tc) := [main_v5, main_c_1]
theorem hostOps1_4_writes : (hostOps1_4 : List (HloOp τ sig (Elt F))).Forall fun op => op.writes ⊆ (hostOps1_4_W.map (Proc.devRef (τ := τ) .tc)).toFinset :=
  StableHlo.forall_writes_sub_of_map rfl

theorem hostOps1_5_fresh : (hostOps1_5 : List (HloOp τ sig (Elt F))).Forall fun op => op.fresh = ∅ := by
  simp only [List.Forall]; repeat' constructor
/-- The arrays that `hostOps1_5` writes. -/
abbrev hostOps1_5_W : List (Ref sig .tc) := [main_call2_v0, main_call2_v1, main_call2_v2, main_call2_v3, main_call2_v4, main_call2_v5, main_call2_v6, main_call2_v7, main_call2_v8, main_call2_v9, main_call2_v10, main_call2_v11, main_call2_v12, main_call2_v13, main_call2_v14, main_call2_v15, main_call2_v16, main_call2_v17, main_call2_v18, main_call2_v19, main_call2_v20, main_call2_v21, main_call2_v22, main_call2_v23, main_call2_v24, main_call2_v25, main_call2_v26, main_v6]
theorem hostOps1_5_writes : (hostOps1_5 : List (HloOp τ sig (Elt F))).Forall fun op => op.writes ⊆ (hostOps1_5_W.map (Proc.devRef (τ := τ) .tc)).toFinset :=
  StableHlo.forall_writes_sub_of_map rfl

theorem hostOps1_6_fresh : (hostOps1_6 : List (HloOp τ sig (Elt F))).Forall fun op => op.fresh = ∅ := by
  simp only [List.Forall]; repeat' constructor
/-- The arrays that `hostOps1_6` writes. -/
abbrev hostOps1_6_W : List (Ref sig .tc) := [main_c_2]
theorem hostOps1_6_writes : (hostOps1_6 : List (HloOp τ sig (Elt F))).Forall fun op => op.writes ⊆ (hostOps1_6_W.map (Proc.devRef (τ := τ) .tc)).toFinset :=
  StableHlo.forall_writes_sub_of_map rfl

theorem hostOps1_7_fresh : (hostOps1_7 : List (HloOp τ sig (Elt F))).Forall fun op => op.fresh = ∅ := by
  simp only [List.Forall]; repeat' constructor
/-- The arrays that `hostOps1_7` writes. -/
abbrev hostOps1_7_W : List (Ref sig .tc) := [main_call3_v0, main_v7]
theorem hostOps1_7_writes : (hostOps1_7 : List (HloOp τ sig (Elt F))).Forall fun op => op.writes ⊆ (hostOps1_7_W.map (Proc.devRef (τ := τ) .tc)).toFinset :=
  StableHlo.forall_writes_sub_of_map rfl

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers when region 0 starts. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when region 0 ends. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after `hostOps1`. -/
abbrev U1 : Dev nD → Valuation τ sig (Elt F) := fun c => StableHlo.after hostOps1 (W2 m ρ c)
theorem U1_of (c : Dev nD) (r : Ref sig .tc) (h : r ∉ hostOps1_W) : U1 m ρ c (Proc.devRef .tc r) = W2 m ρ c (Proc.devRef .tc r) :=
  StableHlo.after_of_writes_sub hostOps1 _ hostOps1_writes h
theorem U1_args (c : Dev nD) : ∀ a ∈ argRefs, U1 m ρ c (Proc.devRef .tc a) = m ((c : Thread nD τ).loc a) :=
  fun a ha => (U1_of m ρ c a ((ListAll.forall_mem_of_all_decide (by decide +kernel) : ∀ a ∈ argRefs, a ∉ hostOps1_W) a ha)).trans (W2_args m ρ c a ha)
/-- The buffers after `hostOps1_1`. -/
abbrev U2 : Dev nD → Valuation τ sig (Elt F) := fun c => StableHlo.after hostOps1_1 (U1 m ρ c)
theorem U2_of (c : Dev nD) (r : Ref sig .tc) (h : r ∉ hostOps1_1_W) : U2 m ρ c (Proc.devRef .tc r) = U1 m ρ c (Proc.devRef .tc r) :=
  StableHlo.after_of_writes_sub hostOps1_1 _ hostOps1_1_writes h
theorem U2_args (c : Dev nD) : ∀ a ∈ argRefs, U2 m ρ c (Proc.devRef .tc a) = m ((c : Thread nD τ).loc a) :=
  fun a ha => (U2_of m ρ c a ((ListAll.forall_mem_of_all_decide (by decide +kernel) : ∀ a ∈ argRefs, a ∉ hostOps1_1_W) a ha)).trans (U1_args m ρ c a ha)
/-- The buffers after `hostOps1_2`. -/
abbrev U3 : Dev nD → Valuation τ sig (Elt F) := fun c => StableHlo.after hostOps1_2 (U2 m ρ c)
theorem U3_of (c : Dev nD) (r : Ref sig .tc) (h : r ∉ hostOps1_2_W) : U3 m ρ c (Proc.devRef .tc r) = U2 m ρ c (Proc.devRef .tc r) :=
  StableHlo.after_of_writes_sub hostOps1_2 _ hostOps1_2_writes h
theorem U3_args (c : Dev nD) : ∀ a ∈ argRefs, U3 m ρ c (Proc.devRef .tc a) = m ((c : Thread nD τ).loc a) :=
  fun a ha => (U3_of m ρ c a ((ListAll.forall_mem_of_all_decide (by decide +kernel) : ∀ a ∈ argRefs, a ∉ hostOps1_2_W) a ha)).trans (U2_args m ρ c a ha)
/-- The buffers after `hostOps1_3`. -/
abbrev U4 : Dev nD → Valuation τ sig (Elt F) := fun c => StableHlo.after hostOps1_3 (U3 m ρ c)
theorem U4_of (c : Dev nD) (r : Ref sig .tc) (h : r ∉ hostOps1_3_W) : U4 m ρ c (Proc.devRef .tc r) = U3 m ρ c (Proc.devRef .tc r) :=
  StableHlo.after_of_writes_sub hostOps1_3 _ hostOps1_3_writes h
theorem U4_args (c : Dev nD) : ∀ a ∈ argRefs, U4 m ρ c (Proc.devRef .tc a) = m ((c : Thread nD τ).loc a) :=
  fun a ha => (U4_of m ρ c a ((ListAll.forall_mem_of_all_decide (by decide +kernel) : ∀ a ∈ argRefs, a ∉ hostOps1_3_W) a ha)).trans (U3_args m ρ c a ha)
/-- The buffers after `hostOps1_4`. -/
abbrev U5 : Dev nD → Valuation τ sig (Elt F) := fun c => StableHlo.after hostOps1_4 (U4 m ρ c)
theorem U5_of (c : Dev nD) (r : Ref sig .tc) (h : r ∉ hostOps1_4_W) : U5 m ρ c (Proc.devRef .tc r) = U4 m ρ c (Proc.devRef .tc r) :=
  StableHlo.after_of_writes_sub hostOps1_4 _ hostOps1_4_writes h
theorem U5_args (c : Dev nD) : ∀ a ∈ argRefs, U5 m ρ c (Proc.devRef .tc a) = m ((c : Thread nD τ).loc a) :=
  fun a ha => (U5_of m ρ c a ((ListAll.forall_mem_of_all_decide (by decide +kernel) : ∀ a ∈ argRefs, a ∉ hostOps1_4_W) a ha)).trans (U4_args m ρ c a ha)
/-- The buffers after `hostOps1_5`. -/
abbrev U6 : Dev nD → Valuation τ sig (Elt F) := fun c => StableHlo.after hostOps1_5 (U5 m ρ c)
theorem U6_of (c : Dev nD) (r : Ref sig .tc) (h : r ∉ hostOps1_5_W) : U6 m ρ c (Proc.devRef .tc r) = U5 m ρ c (Proc.devRef .tc r) :=
  StableHlo.after_of_writes_sub hostOps1_5 _ hostOps1_5_writes h
theorem U6_args (c : Dev nD) : ∀ a ∈ argRefs, U6 m ρ c (Proc.devRef .tc a) = m ((c : Thread nD τ).loc a) :=
  fun a ha => (U6_of m ρ c a ((ListAll.forall_mem_of_all_decide (by decide +kernel) : ∀ a ∈ argRefs, a ∉ hostOps1_5_W) a ha)).trans (U5_args m ρ c a ha)
/-- The buffers after `hostOps1_6`. -/
abbrev U7 : Dev nD → Valuation τ sig (Elt F) := fun c => StableHlo.after hostOps1_6 (U6 m ρ c)
theorem U7_of (c : Dev nD) (r : Ref sig .tc) (h : r ∉ hostOps1_6_W) : U7 m ρ c (Proc.devRef .tc r) = U6 m ρ c (Proc.devRef .tc r) :=
  StableHlo.after_of_writes_sub hostOps1_6 _ hostOps1_6_writes h
theorem U7_args (c : Dev nD) : ∀ a ∈ argRefs, U7 m ρ c (Proc.devRef .tc a) = m ((c : Thread nD τ).loc a) :=
  fun a ha => (U7_of m ρ c a ((ListAll.forall_mem_of_all_decide (by decide +kernel) : ∀ a ∈ argRefs, a ∉ hostOps1_6_W) a ha)).trans (U6_args m ρ c a ha)
/-- The buffers after `hostOps1_7`. -/
abbrev W3 : Dev nD → Valuation τ sig (Elt F) := fun c => StableHlo.after hostOps1_7 (U7 m ρ c)
theorem W3_of (c : Dev nD) (r : Ref sig .tc) (h : r ∉ hostOps1_7_W) : W3 m ρ c (Proc.devRef .tc r) = U7 m ρ c (Proc.devRef .tc r) :=
  StableHlo.after_of_writes_sub hostOps1_7 _ hostOps1_7_writes h
theorem W3_args (c : Dev nD) : ∀ a ∈ argRefs, W3 m ρ c (Proc.devRef .tc a) = m ((c : Thread nD τ).loc a) :=
  fun a ha => (W3_of m ρ c a ((ListAll.forall_mem_of_all_decide (by decide +kernel) : ∀ a ∈ argRefs, a ∉ hostOps1_7_W) a ha)).trans (U7_args m ρ c a ha)
abbrev V3 : (c : Dev nD) → (b : Ref sig .tc) → Buf (Elt F) ((c : Thread nD τ).loc b) := fun c b => W3 m ρ c b
/-- The buffers when region 1 ends. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

abbrev adm : (p : Fin 2) → (pcfgs (F := F) p).Adm := fun p => (cfgs p).toPCfg_adm
/-- The proof data of each region. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's stretches of host operations and its two regions, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (U1 m ρ)),
    .host (hseg hostOps1_2 hostOps1_2_sub hostOps1_2_fresh (U2 m ρ)),
    .host (hseg hostOps1_3 hostOps1_3_sub hostOps1_3_fresh (U3 m ρ)),
    .host (hseg hostOps1_4 hostOps1_4_sub hostOps1_4_fresh (U4 m ρ)),
    .host (hseg hostOps1_5 hostOps1_5_sub hostOps1_5_fresh (U5 m ρ)),
    .host (hseg hostOps1_6 hostOps1_6_sub hostOps1_6_fresh (U6 m ρ)),
    .host (hseg hostOps1_7 hostOps1_7_sub hostOps1_7_fresh (U7 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program terminates; its result is what region 1 leaves, its arguments are unchanged and every
    counter is at zero. -/
theorem run : θ_run defs (onTc (τ := τ) (main (F := F))) ⟨m, fun _ => 0, ρ⟩ (fun r => (∀ c : Dev nD,
      r.2.mem ((c.tc : Thread nD τ).loc main_v8) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v8 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

/-- The frame: the arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run m ρ)

end Cert.KernelIdeal.Run

end
-- ==== Proof.KernelModel.lean ====
/- What the blur region's body writes, said once over the table of lens taps instead of tap by tap. -/
module

public import proofs.«01_k».proof.Proof.KernelIdealBody
public import proofs.«01_k».proof.Pre_lens_tables

@[expose] public section

set_option maxRecDepth 16384

noncomputable section

namespace Cert.KernelIdeal.Blur

open Idealize.ShloMosaic Idealize.ShloMosaic.Tactic
open Cert.KernelIdeal.Gen Cert.KernelIdeal.Run

variable {F : FTy → Type} [FloatOps F]

/-- The eleven rows, or columns, of the lens in order. -/
def eleven : List (Fin 11) := [0, 1, 2, 3, 4, 5, 6, 7, 8, 9, 10]

/-- The tap at these two coordinates lies within five of the centre. -/
def inDisc (a b : Fin 11) : Bool := Nat.ble (a.val * a.val + b.val * b.val + 25) (10 * a.val + 10 * b.val)

/-- The taps of one row of the lens; the disc being symmetric, also of one column. -/
def chord (a : Fin 11) : List (Fin 11) := eleven.filter (inDisc a)

/-- The place of a tap in the lens tables. -/
def tapIdx (dy dx : Fin 11) : Fin 121 := ⟨11 * dy.val + dx.val, by omega⟩

/-- The word of a tap's distance from the centre. -/
def tapWord (dy dx : Fin 11) : BitVec 32 := Cert.Pre_lens_tables.lit0 (tapIdx dy dx)

theorem slices_row (dy : Fin 11) : S80x640.Slices ![dy.val, 0] S64x640 := by
  revert dy; decide

theorem slices_plane (ch : Fin 4) (dy : Fin 11) : S4x80x640.Slices ![ch.val, dy.val, 0] S1x64x640 := by
  revert ch dy; decide

theorem slices_col (dx : Fin 11) : S64x640.Slices ![0, dx.val] S64x512 := by
  revert dx; decide

/-- Sixty-four rows of one channel from row `dy`. -/
def plane (p : FVec F S4x80x640 .f32) (ch : Fin 4) (dy : Fin 11) : FVec F S64x640 .f32 :=
  shapeCast S64x640 (extractStridedSlice S1x64x640 ![ch.val, dy.val, 0] p (slices_plane ch dy)) shapeCasts_S1x64x640_S64x640

/-- The weight of a tap, before its column shift. -/
def weight (u : FVec F S80x640 .f32) (p : FVec F S4x80x640 .f32) (dy : Fin 11) (d : BitVec 32) : FVec F S64x640 .f32 :=
  mulf (minimumf (maximumf (addf (subf (extractStridedSlice S64x640 ![dy.val, 0] u (slices_row dy))
      (broadcast S64x640 (Scalar.ofBits .f32 d))) (broadcast S64x640 (Scalar.ofBits .f32 0x3F000000#32)))
      (broadcast S64x640 (Scalar.ofBits .f32 0x00000000#32))) (broadcast S64x640 (Scalar.ofBits .f32 0x3F800000#32)))
    (plane p 3 dy)

/-- The column shift of a tap. -/
def shifted (dx : Fin 11) (v : FVec F S64x640 .f32) : FVec F S64x512 .f32 :=
  extractStridedSlice S64x512 ![0, dx.val] v (slices_col dx)

/-- The sum of the weights, row of the lens by row. -/
def wsum (u : FVec F S80x640 .f32) (p : FVec F S4x80x640 .f32) : FVec F S64x512 .f32 :=
  eleven.foldl (fun s dy => (chord dy).foldl (fun s dx => addf s (shifted dx (weight u p dy (tapWord dy dx)))) s)
    (broadcast S64x512 (Scalar.ofBits .f32 0x00000000#32))

/-- The weighted sum of one channel over one column of the lens. -/
def cacc (u : FVec F S80x640 .f32) (p : FVec F S4x80x640 .f32) (ch : Fin 4) (dx : Fin 11) : FVec F S64x640 .f32 :=
  (chord dx).foldl (fun s dy => addf s (mulf (weight u p dy (tapWord dy dx)) (plane p ch dy)))
    (broadcast S64x640 (Scalar.ofBits .f32 0x00000000#32))

/-- The weighted sum of one channel, column of the lens by column. -/
def acc (u : FVec F S80x640 .f32) (p : FVec F S4x80x640 .f32) (ch : Fin 4) : FVec F S64x512 .f32 :=
  eleven.foldl (fun s dx => addf s (shifted dx (cacc u p ch dx))) (broadcast S64x512 (Scalar.ofBits .f32 0x00000000#32))

/-- The block the body writes, from its windows of the two padded arrays. -/
def blurred (v3 : Vec F S1x80x640 .f32) (v6 : Vec F S1x4x80x640 .f32) : FVec F S1x3x64x512 .f32 :=
  have u : FVec F S80x640 .f32 := shapeCast S80x640 v3 shapeCasts_S1x80x640_S80x640
  have p : FVec F S4x80x640 .f32 := shapeCast S4x80x640 v6 shapeCasts_S1x4x80x640_S4x80x640
  divf (shapeCast S1x3x64x512 (concatenate S3x64x512 0
      [⟨S1x64x512, shapeCast S1x64x512 (acc u p 0) shapeCasts_S64x512_S1x64x512⟩,
       ⟨S1x64x512, shapeCast S1x64x512 (acc u p 1) shapeCasts_S64x512_S1x64x512⟩,
       ⟨S1x64x512, shapeCast S1x64x512 (acc u p 2) shapeCasts_S64x512_S1x64x512⟩]
      concatenates_S1x64x512_S1x64x512_S1x64x512_S3x64x512_d0) shapeCasts_S3x64x512_S1x3x64x512)
    (broadcastTo S1x3x64x512 (shapeCast S1x1x64x512 (addf (wsum u p) (broadcast S64x512 (Scalar.ofBits .f32 0x358637BD#32)))
      shapeCasts_S64x512_S1x1x64x512) broadcasts_S1x1x64x512_S1x3x64x512)

/-- The body's one write is `blurred` of the two windows it loads. -/
theorem kernelRun1_A_eq (c : Dev nD) (i : grid1.Coords) (arg2 : Memref sig .tc .vmem S1x528x640 .f32) (harg2 : arg2.IsWhole) (arg3 : Memref sig .tc .vmem S1x4x528x640 .f32) (harg3 : arg3.IsWhole) (arg4 : Memref sig .tc .vmem S1x3x64x512 .f32) (harg4 : arg4.IsWhole)
    (x0 : Vec F S1x528x640 .f32) (x1 : Vec F S1x4x528x640 .f32) :
    (kernelRun1_A c i arg2 harg2 arg3 harg3 arg4 harg4 x0 x1).1
      = [⟨Rect.unit ![0, 0, 0, 0] S1x3x64x512.size inb_S1x3x64x512_S1x3x64x512_0_0_0_0, blurred
          (View.readAt (Elt F) arg2.view (Rect.unit (s := S1x528x640) (k1_off1 i) S1x80x640.size (k1_off1_inb i)).toLoadRect (harg2.unread x0))
          (View.readAt (Elt F) arg3.view (Rect.unit (s := S1x4x528x640) (k1_off2 i) S1x4x80x640.size (k1_off2_inb i)).toLoadRect (harg3.unread x1))⟩] := by
  sl_kernel_rfl

end Cert.KernelIdeal.Blur

end
-- ==== Proof.KernelValue.lean ====
/- The block the blur region's body writes, read at an index over the extended reals. -/
module

public import proofs.«01_k».proof.Proof.KernelModel
public import Idealize.ShloMosaic.Lib.Pointwise

@[expose] public section

set_option maxRecDepth 16384

noncomputable section

namespace Cert.KernelIdeal.Blur

open Idealize.ShloMosaic Idealize.ShloMosaic.Tactic
open Cert.KernelIdeal.Gen Cert.KernelIdeal.Run

/-- How far a disc of radius `r` covers a tap at distance `d`, over the extended reals. -/
def cover (r d : EReal) : EReal := min (max (r - d + Ideal.ofBits .f32 0x3F000000#32) 0) 1

/-- Sixty-four rows of a channel at an index. -/
theorem plane_apply (p : FVec Ideal S4x80x640 .f32) (ch : Fin 4) (dy : Fin 11) (a : Fin 64) (j : Fin 640) :
    plane p ch dy (ix2 a j) = p (ix3 ch ⟨dy.val + a.val, by omega⟩ j) := by
  pointwise [plane]

/-- A tap's weight at an index. -/
theorem weight_apply (u : FVec Ideal S80x640 .f32) (p : FVec Ideal S4x80x640 .f32) (dy : Fin 11) (d : BitVec 32)
    (a : Fin 64) (j : Fin 640) :
    weight u p dy d (ix2 a j)
      = cover (u (ix2 ⟨dy.val + a.val, by omega⟩ j)) (Ideal.ofBits .f32 d) * p (ix3 3 ⟨dy.val + a.val, by omega⟩ j) := by
  pointwise [weight, plane, cover]

/-- A shifted vector at an index. -/
theorem shifted_apply (dx : Fin 11) (v : FVec Ideal S64x640 .f32) (a : Fin 64) (b : Fin 512) :
    shifted dx v (ix2 a b) = v (ix2 a ⟨dx.val + b.val, by omega⟩) := by
  pointwise [shifted]

/-- A running sum of vectors, at an index. -/
theorem foldl_addf_apply {α : Type} {s : Shape} (f : α → FVec Ideal s .f32) (l : List α) (z : FVec Ideal s .f32) (i : s.Idx) :
    (l.foldl (fun s k => addf s (f k)) z) i = z i + (l.map fun k => f k i).sum := by
  induction l generalizing z with
  | nil => simp
  | cons k l ih => rw [List.foldl_cons, ih]; simp [addf, add_assoc]; try rfl

/-- A running sum of running sums, at an index. -/
theorem foldl_foldl_addf_apply {α β : Type} {s : Shape} (f : α → β → FVec Ideal s .f32) (g : α → List β) (l : List α)
    (z : FVec Ideal s .f32) (i : s.Idx) :
    (l.foldl (fun s k => (g k).foldl (fun s e => addf s (f k e)) s) z) i
      = z i + (l.map fun k => ((g k).map fun e => f k e i).sum).sum := by
  induction l generalizing z with
  | nil => simp
  | cons k l ih => rw [List.foldl_cons, ih, foldl_addf_apply]; simp [add_assoc]

/-- A sum over the eleven coordinates in order. -/
theorem sum_eleven (f : Fin 11 → EReal) : (eleven.map f).sum = ∑ k, f k := by
  rw [Fin.sum_univ_def, show eleven = List.finRange 11 by decide]

/-- A sum over a chord is a sum over all eleven coordinates with zeros off the disc. -/
theorem sum_chord (a : Fin 11) (f : Fin 11 → EReal) : ((chord a).map f).sum = ∑ b, if inDisc a b then f b else 0 := by
  rw [← sum_eleven]; unfold chord
  induction eleven with
  | nil => rfl
  | cons k l ih => by_cases h : inDisc a k <;> simp [h, ih]

/-- The disc is symmetric. -/
theorem inDisc_comm : ∀ a b : Fin 11, inDisc a b = inDisc b a := by decide

/-- The weight of a tap at a pixel of the block. -/
def tap (u : FVec Ideal S80x640 .f32) (p : FVec Ideal S4x80x640 .f32) (a : Fin 64) (b : Fin 512) (dy dx : Fin 11) : EReal :=
  cover (u (ix2 ⟨dy.val + a.val, by omega⟩ ⟨dx.val + b.val, by omega⟩)) (Ideal.ofBits .f32 (tapWord dy dx))
    * p (ix3 3 ⟨dy.val + a.val, by omega⟩ ⟨dx.val + b.val, by omega⟩)

/-- The sum of the weights at a pixel. -/
theorem wsum_apply (u : FVec Ideal S80x640 .f32) (p : FVec Ideal S4x80x640 .f32) (a : Fin 64) (b : Fin 512) :
    wsum u p (ix2 a b) = ∑ dy, ∑ dx, if inDisc dy dx then tap u p a b dy dx else 0 := by
  unfold wsum
  rw [foldl_foldl_addf_apply (fun dy dx => shifted dx (weight u p dy (tapWord dy dx))) chord, sum_eleven]
  simp only [sum_chord, shifted_apply, weight_apply]
  rw [show (broadcast S64x512 (Scalar.ofBits .f32 0x00000000#32) : FVec Ideal S64x512 .f32) (ix2 a b) = 0 by pointwise, zero_add]
  rfl

/-- The weighted sum of a channel over one column of the lens, at a pixel. -/
theorem cacc_apply (u : FVec Ideal S80x640 .f32) (p : FVec Ideal S4x80x640 .f32) (ch : Fin 4) (dx : Fin 11) (a : Fin 64) (b : Fin 512) :
    cacc u p ch dx (ix2 a ⟨dx.val + b.val, by omega⟩)
      = ∑ dy, if inDisc dx dy then tap u p a b dy dx * p (ix3 ch ⟨dy.val + a.val, by omega⟩ ⟨dx.val + b.val, by omega⟩) else 0 := by
  unfold cacc
  rw [foldl_addf_apply (fun dy => mulf (weight u p dy (tapWord dy dx)) (plane p ch dy)), sum_chord]
  rw [show (broadcast S64x640 (Scalar.ofBits .f32 0x00000000#32) : FVec Ideal S64x640 .f32) (ix2 a ⟨dx.val + b.val, by omega⟩) = 0 by pointwise,
    zero_add]
  refine Finset.sum_congr rfl fun dy _ => ?_
  rw [show ∀ v w : FVec Ideal S64x640 .f32, ∀ i, mulf v w i = v i * w i from fun _ _ _ => rfl, weight_apply, plane_apply]
  rfl

/-- The weighted sum of a channel at a pixel. -/
theorem acc_apply (u : FVec Ideal S80x640 .f32) (p : FVec Ideal S4x80x640 .f32) (ch : Fin 4) (a : Fin 64) (b : Fin 512) :
    acc u p ch (ix2 a b)
      = ∑ dy, ∑ dx, if inDisc dy dx then tap u p a b dy dx * p (ix3 ch ⟨dy.val + a.val, by omega⟩ ⟨dx.val + b.val, by omega⟩) else 0 := by
  unfold acc
  rw [foldl_addf_apply (fun dx => shifted dx (cacc u p ch dx)), sum_eleven]
  rw [show (broadcast S64x512 (Scalar.ofBits .f32 0x00000000#32) : FVec Ideal S64x512 .f32) (ix2 a b) = 0 by pointwise, zero_add]
  simp only [shifted_apply, cacc_apply]
  rw [Finset.sum_comm]
  simp only [fun a b => inDisc_comm b a]

/-- The block the body writes, at an index. -/
theorem blurred_apply (v3 : Vec Ideal S1x80x640 .f32) (v6 : Vec Ideal S1x4x80x640 .f32) (ch : Fin 3) (a : Fin 64) (b : Fin 512) :
    blurred v3 v6 (ix4 0 ch a b)
      = Ideal.div
          (acc (F := Ideal) (shapeCast S80x640 v3 shapeCasts_S1x80x640_S80x640) (shapeCast S4x80x640 v6 shapeCasts_S1x4x80x640_S4x80x640) (ch.castLE (by omega)) (ix2 a b))
          (wsum (F := Ideal) (shapeCast S80x640 v3 shapeCasts_S1x80x640_S80x640) (shapeCast S4x80x640 v6 shapeCasts_S1x4x80x640_S4x80x640) (ix2 a b)
            + Ideal.ofBits .f32 0x358637BD#32) := by
  obtain rfl | rfl | rfl : ch = 0 ∨ ch = 1 ∨ ch = 2 := by revert ch; decide
  all_goals (pointwise [blurred]; rfl)

end Cert.KernelIdeal.Blur

end
-- ==== Proof.KernelOut.lean ====
/- What the two regions leave in their result arrays, at every index, over the arrays they start from. -/
module

public import proofs.«01_k».proof.Proof.KernelValue
public import Idealize.ShloMosaic.Lib.Pipeline.ValueKit
public import Idealize.ShloMosaic.Lib.WholeRead

@[expose] public section

set_option maxRecDepth 16384

noncomputable section

namespace Cert.KernelIdeal.Blur

open Idealize.ShloMosaic Idealize.ShloMosaic.Tactic Idealize.ShloMosaic.Pipeline Idealize.ShloMosaic.TcCoe
open Cert.KernelIdeal.Gen Cert.KernelIdeal.Run

variable (V : (c : Dev nD) → (b : Ref sig .tc) → Buf (Elt Ideal) ((c : Thread nD τ).loc b))

/-- The block each window of region 0 is at. -/
theorem idx0 : ∀ t : Fin cfg0.N, win0_0.index t = ![0, 0] ∧ win0_1.index t = ![(grid0.coords t 0).val, 0, 0]
    ∧ win0_2.index t = ![(grid0.coords t 0).val, 0, 0] ∧ k0_off1 (grid0.coords t) = ![(grid0.coords t 0).val, 0] :=
  (by decide +kernel : ∀ t : Fin grid0.N, _)

/-- The block each window of region 1 is at, and the row its body loads from. -/
theorem idx1 : ∀ t : Fin cfg1.N, win1_0.index t = ![(grid1.coords t 0).val, 0, 0] ∧ win1_1.index t = ![(grid1.coords t 0).val, 0, 0, 0]
    ∧ win1_2.index t = ![(grid1.coords t 0).val, 0, (grid1.coords t 1).val, 0]
    ∧ k1_off1 (grid1.coords t) = ![0, 64 * (grid1.coords t 1).val, 0] ∧ k1_off2 (grid1.coords t) = ![0, 0, 64 * (grid1.coords t 1).val, 0] :=
  (by decide +kernel : ∀ t : Fin grid1.N, _)

/-- The radius of a pixel: its distance from the plane in focus, times its image's lens effect. -/
def radius (D : FVec Ideal S4x512x512 .f32) (E : FVec Ideal S4x1 .f32) (n : Fin 4) (r s : Fin 512) : EReal :=
  FloatOps.absf (D (ix3 n r s)) * E (ix2 n 0)

/-- The radii that region 0 leaves. -/
theorem radius_final (c : Dev nD) :
    (dat0 V c).arrAt 2 cfg0.N
      = fun i : S4x512x512.Idx => radius (V c main_v1) (V c main_arg1) (i 0) (i 1) (i 2) := by
  refine (dat0 V c).arrAt_eq_of_covers 2 _ (by decide +kernel) fun t hf y => ?_
  blk_simp
  rw [after0_2]
  unfold outsAt0
  frame_out
  obtain ⟨h0, h1, h2, h3⟩ := idx0 t
  pointwise [k0_pay1, radius]
  refine congrArg₂ (· * ·) (congrArg FloatOps.absf ?_) ?_
  · blk_ext [iblk0, h1, h2]
  · blk_ext [iblk0, h0, h2, h3]

/-- The body's block over the blocks it reads. -/
theorem out1_eq (c : Dev nD) (i : grid1.Coords) (arg2 : Memref sig .tc .vmem S1x528x640 .f32) (harg2 : arg2.IsWhole) (arg3 : Memref sig .tc .vmem S1x4x528x640 .f32) (harg3 : arg3.IsWhole) (arg4 : Memref sig .tc .vmem S1x3x64x512 .f32) (harg4 : arg4.IsWhole)
    (x0 : Vec Ideal S1x528x640 .f32) (x1 : Vec Ideal S1x4x528x640 .f32) :
    out1_A_2 c i arg2 harg2 arg3 harg3 arg4 harg4 x0 x1
      = blurred (View.ld x0 (Rect.unit (s := S1x528x640) (k1_off1 i) S1x80x640.size (k1_off1_inb i)))
          (View.ld x1 (Rect.unit (s := S1x4x528x640) (k1_off2 i) S1x4x80x640.size (k1_off2_inb i))) := by
  unfold out1_A_2
  rw [kernelRun1_A_eq, View.read_writes_junk_eq_canon, View.canon_unit_zero (by funext a; fin_cases a <;> rfl)]
  congr 1 <;> funext x <;> exact Memref.IsWhole.readAt_unread _ _ _ _

/-- Eighty rows of padded radii, loaded from row `64 k`, at an index. -/
theorem ld_rows (X : Vec Ideal S1x528x640 .f32) (off : Fin 3 → Nat) (inb) (k : Nat) (e : off = ![0, 64 * k, 0]) (i : Fin 80) (j : Fin 640)
    (hi : 64 * k + i.val < 528) :
    View.ld X (Rect.unit (s := S1x528x640) off S1x80x640.size inb) (ix3 0 i j) = X (ix3 0 ⟨64 * k + i.val, hi⟩ j) := by
  subst e
  exact View.ld_unit_apply_of X _ _ inb _ _ fun a => by fin_cases a <;> simp [ix3]

/-- Eighty rows of every padded channel, loaded from row `64 k`, at an index. -/
theorem ld_planes (X : Vec Ideal S1x4x528x640 .f32) (off : Fin 4 → Nat) (inb) (k : Nat) (e : off = ![0, 0, 64 * k, 0]) (ch : Fin 4)
    (i : Fin 80) (j : Fin 640) (hi : 64 * k + i.val < 528) :
    View.ld X (Rect.unit (s := S1x4x528x640) off S1x4x80x640.size inb) (ix4 0 ch i j) = X (ix4 0 ch ⟨64 * k + i.val, hi⟩ j) := by
  subst e
  exact View.ld_unit_apply_of X _ _ inb _ _ fun a => by fin_cases a <;> simp [ix4]

/-- A tap's weight, from the padded radii and channels of image `n`, at output row `r` and column `s`. -/
def wtap (U : FVec Ideal S4x528x640 .f32) (P : FVec Ideal S4x4x528x640 .f32) (n : Fin 4) (r s : Fin 512) (dy dx : Fin 11) : EReal :=
  cover (U (ix3 n ⟨dy.val + r.val, by omega⟩ ⟨dx.val + s.val, by omega⟩)) (Ideal.ofBits .f32 (tapWord dy dx))
    * P (ix4 n 3 ⟨dy.val + r.val, by omega⟩ ⟨dx.val + s.val, by omega⟩)

/-- The blurred image over the padded radii and channels. -/
def image (U : FVec Ideal S4x528x640 .f32) (P : FVec Ideal S4x4x528x640 .f32) (n : Fin 4) (ch : Fin 3) (r s : Fin 512) : EReal :=
  Ideal.div
    (∑ dy : Fin 11, ∑ dx : Fin 11, if inDisc dy dx then
      wtap U P n r s dy dx * P (ix4 n (ch.castLE (by omega)) ⟨dy.val + r.val, by omega⟩ ⟨dx.val + s.val, by omega⟩) else 0)
    ((∑ dy : Fin 11, ∑ dx : Fin 11, if inDisc dy dx then wtap U P n r s dy dx else 0) + Ideal.ofBits .f32 0x358637BD#32)

/-- The body's block, when the blocks it reads are rows of the padded radii and channels of one image. -/
theorem blurred_image (U : FVec Ideal S4x528x640 .f32) (P : FVec Ideal S4x4x528x640 .f32) (n : Fin 4) (k : Fin 8)
    (v3 : Vec Ideal S1x80x640 .f32) (v6 : Vec Ideal S1x4x80x640 .f32)
    (h3 : ∀ (i : Fin 80) (j : Fin 640) (hi : 64 * k.val + i.val < 528), v3 (ix3 0 i j) = U (ix3 n ⟨64 * k.val + i.val, hi⟩ j))
    (h6 : ∀ (ch : Fin 4) (i : Fin 80) (j : Fin 640) (hi : 64 * k.val + i.val < 528), v6 (ix4 0 ch i j) = P (ix4 n ch ⟨64 * k.val + i.val, hi⟩ j))
    (ch : Fin 3) (a : Fin 64) (b : Fin 512) (r : Fin 512) (hr : r.val = 64 * k.val + a.val) :
    blurred v3 v6 (ix4 0 ch a b) = image U P n ch r b := by
  have eU : ∀ (dy dx : Fin 11), shapeCast S80x640 v3 shapeCasts_S1x80x640_S80x640 (ix2 ⟨dy.val + a.val, by omega⟩ ⟨dx.val + b.val, by omega⟩)
      = U (ix3 n ⟨dy.val + r.val, by omega⟩ ⟨dx.val + b.val, by omega⟩) := by
    intro dy dx
    pointwise
    rw [h3 _ _ (by dsimp only; omega)]
    congr 2; exact Fin.ext (by dsimp only; omega)
  have eP : ∀ (ch : Fin 4) (dy dx : Fin 11), shapeCast S4x80x640 v6 shapeCasts_S1x4x80x640_S4x80x640 (ix3 ch ⟨dy.val + a.val, by omega⟩ ⟨dx.val + b.val, by omega⟩)
      = P (ix4 n ch ⟨dy.val + r.val, by omega⟩ ⟨dx.val + b.val, by omega⟩) := by
    intro ch dy dx
    pointwise
    rw [h6 _ _ _ (by dsimp only; omega)]
    congr 2; exact Fin.ext (by dsimp only; omega)
  rw [blurred_apply, acc_apply, wsum_apply]
  simp only [tap, eU, eP]
  rfl

/-- The same at an entry of the block and the entry of the image it is put at. -/
theorem blurred_image' (U : FVec Ideal S4x528x640 .f32) (P : FVec Ideal S4x4x528x640 .f32) (n : Fin 4) (k : Fin 8)
    (v3 : Vec Ideal S1x80x640 .f32) (v6 : Vec Ideal S1x4x80x640 .f32) (y : S1x3x64x512.Idx) (x : S4x3x512x512.Idx)
    (h3 : ∀ (i : Fin 80) (j : Fin 640) (hi : 64 * k.val + i.val < 528), v3 (ix3 0 i j) = U (ix3 n ⟨64 * k.val + i.val, hi⟩ j))
    (h6 : ∀ (ch : Fin 4) (i : Fin 80) (j : Fin 640) (hi : 64 * k.val + i.val < 528), v6 (ix4 0 ch i j) = P (ix4 n ch ⟨64 * k.val + i.val, hi⟩ j))
    (e0 : (x 0).val = n.val) (e1 : (x 1).val = (y 1).val) (e2 : (x 2).val = 64 * k.val + (y 2).val) (e3 : (x 3).val = (y 3).val) :
    blurred v3 v6 y = image U P (x 0) (x 1) (x 2) (x 3) := by
  rw [show x 0 = n from Fin.ext e0, show x 1 = y 1 from Fin.ext e1, show x 3 = y 3 from Fin.ext e3, ← blurred_image U P n k v3 v6 h3 h6 (y 1) (y 2) (y 3) (x 2) e2]
  idx_bounds y
  congr 1
  blk_ext

/-- The blurred image that region 1 leaves. -/
theorem blur_final (c : Dev nD) :
    (dat1 V c).arrAt 2 cfg1.N
      = fun i : S4x3x512x512.Idx => (image (V c main_v4) (V c main_v7) (i 0) (i 1) (i 2) (i 3) : EReal) := by
  refine (dat1 V c).arrAt_eq_of_covers 2 _ (by decide +kernel) fun t hf y => ?_
  blk_simp
  rw [after1_2]
  unfold outsAt1
  rw [out1_eq]
  obtain ⟨h0, h1, h2, h3, h4⟩ := idx1 t
  refine blurred_image' (V c main_v4) (V c main_v7) (grid1.coords t 0) (grid1.coords t 1) _ _ y ((win1_2.blk t).view.emb y) ?_ ?_ ?_ ?_ ?_ ?_
  · intro i j hi
    refine (ld_rows _ _ _ _ h3 _ _ hi).trans ?_
    blk_ext [iblk1, h0]
  · intro ch i j hi
    refine (ld_planes _ _ _ _ h4 _ _ _ hi).trans ?_
    blk_ext [iblk1, h1]
  all_goals
    blk_simp [h2]
    try omega

end Cert.KernelIdeal.Blur

end
-- ==== Proof.Border.lean ====
/- Which row or column of an image a row or column of its edge-padded copy repeats. -/
module

public import Idealize.ShloMosaic.Lib.Pointwise

@[expose] public section

namespace Cert.Blur

/-- The row, or column, of the image that a row of the image padded by five repeats. -/
def border (i : Fin 522) : Fin 512 := ⟨min (i.val - 5) 511, by omega⟩

end Cert.Blur
-- ==== Proof.KernelPad.lean ====
/- What the arrays that the blur region reads hold: the radii and the channels, edge padded, at every index it loads. -/
module

public import proofs.«01_k».proof.Proof.KernelIdealRun
public import proofs.«01_k».proof.Proof.Border
public import Idealize.ShloMosaic.Lib.Pointwise
public import Idealize.ShloMosaic.Lib.StableHlo.ReadAt

@[expose] public section

set_option maxRecDepth 16384

noncomputable section

namespace Cert.KernelIdeal.Blur

open Idealize.ShloMosaic Idealize.ShloMosaic.Tactic Idealize.ShloMosaic.StableHlo
open Cert.Blur Cert.KernelIdeal.Gen Cert.KernelIdeal.Run

/-- A concatenation of three arrays inside a called function leaves the concatenation of what the three held. -/
theorem joined {S0 S1 S2 S : Shape} (a : Fin S.rank) (x0 : TRef sig ⟨S0, .f32⟩) (x1 : TRef sig ⟨S1, .f32⟩) (x2 : TRef sig ⟨S2, .f32⟩)
    (y : TRef sig ⟨S, .f32⟩) (h : Shape.Concatenates [S0, S1, S2] S a) (V : Valuation τ sig (Elt Ideal)) :
    (TRef.nary (τ := τ) (Val := Elt Ideal) (Ts := ![⟨S0, .f32⟩, ⟨S1, .f32⟩, ⟨S2, .f32⟩])
        (Fin.cons x0 (Fin.cons x1 (Fin.cons x2 fun k => k.elim0))) y
        (fun u => (concatenate S a [⟨S0, (u 0 : (⟨S0, .f32⟩ : BufTy).Contents (Elt Ideal))⟩, ⟨S1, (u 1 : (⟨S1, .f32⟩ : BufTy).Contents (Elt Ideal))⟩,
          ⟨S2, (u 2 : (⟨S2, .f32⟩ : BufTy).Contents (Elt Ideal))⟩] h : (⟨S, .f32⟩ : BufTy).Contents (Elt Ideal)))).result V
        (no_index (Proc.devRef .tc y.ref))
      = y.toBuf (concatenate S a [⟨S0, x0.ofBuf (V (Proc.devRef .tc x0.ref))⟩, ⟨S1, x1.ofBuf (V (Proc.devRef .tc x1.ref))⟩,
          ⟨S2, x2.ofBuf (V (Proc.devRef .tc x2.ref))⟩] h) :=
  nary_result ..

set_option maxHeartbeats 4000000 in
/-- The padded radii are the radii at the bordered row and column. -/
theorem pad_radius (V : Valuation τ sig (Elt Ideal)) (b : Fin 4) (i j : Fin 522) :
    (StableHlo.after hostOps1_1 V (Proc.devRef .tc main_v3) : FVec Ideal S4x522x522 .f32) (ix3 b i j)
      = (V (Proc.devRef .tc main_v2) : FVec Ideal S4x512x512 .f32) (ix3 b (border i) (border j)) := by
  iterate 3
    simp (disch := decide) only [readAfter, readUpto, unary_result', reshape_result', joined]
    simp -implicitDefEqProofs only [TRef.toBuf, TRef.ofBuf, cast_cast, cast_eq]
    clean_types
    pointwise
  simp (disch := decide) only [readUpto, Nat.not_lt_zero, dif_neg, not_false_eq_true]
  split_ifs
  all_goals
    refine congrArg₂ (fun r s => (V (Proc.devRef .tc main_v2) : FVec Ideal S4x512x512 .f32) (ix3 b r s)) (Fin.ext ?_) (Fin.ext ?_) <;>
      simp [border] <;> omega

set_option maxHeartbeats 4000000 in
/-- The padded channels are the channels at the bordered row and column. -/
theorem pad_channels (V : Valuation τ sig (Elt Ideal)) (b ch : Fin 4) (i j : Fin 522) :
    (StableHlo.after hostOps1_5 V (Proc.devRef .tc main_v6) : FVec Ideal S4x4x522x522 .f32) (ix4 b ch i j)
      = (V (Proc.devRef .tc main_v5) : FVec Ideal S4x4x512x512 .f32) (ix4 b ch (border i) (border j)) := by
  iterate 4
    simp (disch := decide) only [readAfter, readUpto, unary_result', reshape_result', joined]
    simp -implicitDefEqProofs only [TRef.toBuf, TRef.ofBuf, cast_cast, cast_eq]
    clean_types
    pointwise
  simp (disch := decide) only [readUpto, Nat.not_lt_zero, dif_neg, not_false_eq_true]
  split_ifs
  all_goals
    refine congrArg₂ (fun r s => (V (Proc.devRef .tc main_v5) : FVec Ideal S4x4x512x512 .f32) (ix4 b ch r s)) (Fin.ext ?_) (Fin.ext ?_) <;>
      simp [border] <;> omega

end Cert.KernelIdeal.Blur

end
-- ==== Proof.KernelEntry.lean ====
/- What the two regions find in the arrays they read, at an index, over the kernel's arguments. -/
module

public import proofs.«01_k».proof.Proof.KernelOut
public import proofs.«01_k».proof.Proof.KernelPad

@[expose] public section

set_option maxRecDepth 16384

noncomputable section

namespace Cert.KernelIdeal.Blur

open Idealize.ShloMosaic Idealize.ShloMosaic.Tactic Idealize.ShloMosaic.StableHlo Idealize.ShloMosaic.TcCoe
open Cert.Blur Cert.KernelIdeal.Gen Cert.KernelIdeal.Run

/-- Region 0 reads the fifth channel of the input. -/
theorem disparity (V : Valuation τ sig (Elt Ideal)) (b : Fin 4) (r s : Fin 512) :
    (StableHlo.after hostOps0 V (Proc.devRef .tc main_v1) : FVec Ideal S4x512x512 .f32) (ix3 b r s)
      = (V (Proc.devRef .tc main_arg0) : FVec Ideal S4x5x512x512 .f32) (ix4 b 4 r s) := by
  after_reads_at

/-- The channels to be padded are the first four of the input. -/
theorem channels (V : Valuation τ sig (Elt Ideal)) (b ch : Fin 4) (r s : Fin 512) :
    (StableHlo.after hostOps1_4 V (Proc.devRef .tc main_v5) : FVec Ideal S4x4x512x512 .f32) (ix4 b ch r s)
      = (V (Proc.devRef .tc main_arg0) : FVec Ideal S4x5x512x512 .f32) (ix4 b (ch.castLE (by omega)) r s) := by
  after_reads_at
  rfl

/-- Filling the padded radii up with zeros leaves them where they were. -/
theorem fill_radius (V : Valuation τ sig (Elt Ideal)) (b : Fin 4) (i j : Fin 522) :
    (StableHlo.after hostOps1_3 V (Proc.devRef .tc main_v4) : FVec Ideal S4x528x640 .f32) (ix3 b ⟨i.val, by omega⟩ ⟨j.val, by omega⟩)
      = (V (Proc.devRef .tc main_v3) : FVec Ideal S4x522x522 .f32) (ix3 b i j) := by
  after_reads_at

/-- Filling the padded channels up with zeros leaves them where they were. -/
theorem fill_channels (V : Valuation τ sig (Elt Ideal)) (b ch : Fin 4) (i j : Fin 522) :
    (StableHlo.after hostOps1_7 V (Proc.devRef .tc main_v7) : FVec Ideal S4x4x528x640 .f32) (ix4 b ch ⟨i.val, by omega⟩ ⟨j.val, by omega⟩)
      = (V (Proc.devRef .tc main_v6) : FVec Ideal S4x4x522x522 .f32) (ix4 b ch i j) := by
  after_reads_at

variable (m : (ℓ : Loc nD τ sig) → Buf (Elt Ideal) ℓ) (ρ : Dev nD → PrngReg)

/-- The radii that region 1 reads. -/
theorem entry_radius (c : Dev nD) (b : Fin 4) (i j : Fin 522) :
    (V3 m ρ c main_v4 : FVec Ideal S4x528x640 .f32) (ix3 b ⟨i.val, by omega⟩ ⟨j.val, by omega⟩)
      = (FloatOps.absf (F := Ideal) (φ := .f32) ((m ((c : Thread nD τ).loc main_arg0) : FVec Ideal S4x5x512x512 .f32) (ix4 b 4 (border i) (border j))) : EReal)
        * (m ((c : Thread nD τ).loc main_arg1) : FVec Ideal S4x1 .f32) (ix2 b 0) := by
  have e : V3 m ρ c main_v4 = U4 m ρ c (Proc.devRef .tc main_v4) :=
    (W3_of m ρ c main_v4 (by decide)).trans <| (U7_of m ρ c main_v4 (by decide)).trans <| (U6_of m ρ c main_v4 (by decide)).trans <| U5_of m ρ c main_v4 (by decide)
  rw [e]
  refine (fill_radius (U3 m ρ c) b i j).trans ?_
  rw [U3_of m ρ c main_v3 (by decide)]
  refine (pad_radius (U1 m ρ c) b i j).trans ?_
  rw [U1_of m ρ c main_v2 (by decide)]
  refine (congrFun ((W2_arr m ρ c 2).trans (radius_final (V1 m ρ) c)) (ix3 b (border i) (border j))).trans ?_
  refine congrArg₂ (· * ·) (congrArg FloatOps.absf (disparity (W0 m ρ c) b (border i) (border j))) ?_
  exact congrFun (W1_args m ρ c main_arg1 (by decide)) (ix2 b 0)

/-- The channels that region 1 reads. -/
theorem entry_channels (c : Dev nD) (b ch : Fin 4) (i j : Fin 522) :
    (V3 m ρ c main_v7 : FVec Ideal S4x4x528x640 .f32) (ix4 b ch ⟨i.val, by omega⟩ ⟨j.val, by omega⟩)
      = (m ((c : Thread nD τ).loc main_arg0) : FVec Ideal S4x5x512x512 .f32) (ix4 b (ch.castLE (by omega)) (border i) (border j)) := by
  refine (fill_channels (U7 m ρ c) b ch i j).trans ?_
  rw [U7_of m ρ c main_v6 (by decide)]
  refine (pad_channels (U5 m ρ c) b ch i j).trans ?_
  refine (channels (U4 m ρ c) b ch (border i) (border j)).trans ?_
  exact congrFun (U4_args m ρ c main_arg0 (by decide)) _

end Cert.KernelIdeal.Blur

end
-- ==== Proof.Reference.lean ====
/- The run of the reference: it ends, its arguments stay, and its result is the value read stage by stage. -/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.ReferenceIdeal.Ref

open Idealize.ShloMosaic Idealize.ShloMosaic.TcCoe Idealize.SL.Sem

variable {F : FTy → Type} [FloatOps F]

/-- From any memory the reference terminates with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end Cert.ReferenceIdeal.Ref

end
-- ==== Proof.ReferencePad.lean ====
/- The reference's padded image and its shifted copies, read at an index. -/
module

public import proofs.«01_k».proof.Proof.Gen.ReferenceIdeal.Read
public import proofs.«01_k».proof.Proof.Border
public import Idealize.ShloMosaic.Lib.Pointwise

@[expose] public section

set_option maxRecDepth 16384

noncomputable section

namespace Cert.ReferenceIdeal.Blur

open Idealize.ShloMosaic Idealize.ShloMosaic.Tactic
open Cert.Blur Cert.ReferenceIdeal.Gen Cert.ReferenceIdeal.Read

variable (x0 : FVec Ideal S4x5x512x512 .f32) (x1 : FVec Ideal S4x1 .f32)

/-- The padded image is the image at the bordered row and column. -/
theorem padded_apply (n : Fin 4) (ch : Fin 5) (i j : Fin 522) :
    val_main_v16 (F := Ideal) x0 x1 (ix4 n ch i j) = val_main_v6 (F := Ideal) x0 x1 (ix4 n ch (border i) (border j)) := by
  unfold val_main_v16 val_main_v15 val_main_v14 val_main_v13 val_main_v12 val_main_v11 val_main_v10 val_main_v9 val_main_v8 val_main_v7
  generalize val_main_v6 (F := Ideal) x0 x1 = y
  pointwise
  split_ifs
  all_goals
    refine congrArg₂ (fun r s => y (ix4 n ch r s)) (Fin.ext ?_) (Fin.ext ?_) <;> simp [border] <;> omega

/-- The stack of the copies shifted by rows. -/
theorem rows_apply (n : Fin 4) (ch : Fin 5) (dy : Fin 11) (r : Fin 512) (j : Fin 522) :
    val_main_v39 (F := Ideal) x0 x1 (ix5 n ch dy r j) = val_main_v16 (F := Ideal) x0 x1 (ix4 n ch ⟨dy.val + r.val, by omega⟩ j) := by
  unfold val_main_v39 val_main_v38 val_main_v37 val_main_v36 val_main_v35 val_main_v34 val_main_v33 val_main_v32 val_main_v31 val_main_v30
    val_main_v29 val_main_v28 val_main_v27 val_main_v26 val_main_v25 val_main_v24 val_main_v23 val_main_v22 val_main_v21 val_main_v20 val_main_v19
    val_main_v18 val_main_v17
  generalize val_main_v16 (F := Ideal) x0 x1 = y
  pointwise
  fin_vals dy with hk
  all_goals simp only [hk, Nat.reduceSub, Nat.reduceLT, ↓reduceDIte]
  simp only [Nat.zero_add]

/-- The stack of the copies shifted by rows and columns. -/
theorem copies_apply (n : Fin 4) (ch : Fin 5) (dy dx : Fin 11) (r s : Fin 512) :
    val_main_v62 (F := Ideal) x0 x1 (ix6 n ch dy dx r s)
      = val_main_v39 (F := Ideal) x0 x1 (ix5 n ch dy r ⟨dx.val + s.val, by omega⟩) := by
  unfold val_main_v62 val_main_v61 val_main_v60 val_main_v59 val_main_v58 val_main_v57 val_main_v56 val_main_v55 val_main_v54 val_main_v53
    val_main_v52 val_main_v51 val_main_v50 val_main_v49 val_main_v48 val_main_v47 val_main_v46 val_main_v45 val_main_v44 val_main_v43 val_main_v42
    val_main_v41 val_main_v40
  generalize val_main_v39 (F := Ideal) x0 x1 = y
  pointwise
  fin_vals dx with hk
  all_goals simp only [hk, Nat.reduceSub, Nat.reduceLT, ↓reduceDIte]
  simp only [Nat.zero_add]

end Cert.ReferenceIdeal.Blur

end
-- ==== Proof.ReferenceValue.lean ====
/- The reference's result, read at an index. -/
module

public import proofs.«01_k».proof.Proof.ReferencePad

@[expose] public section

set_option maxRecDepth 16384

noncomputable section

namespace Cert.ReferenceIdeal.Blur

open Idealize.ShloMosaic Idealize.ShloMosaic.Tactic
open Cert.Blur Cert.ReferenceIdeal.Gen Cert.ReferenceIdeal.Read

variable (x0 : FVec Ideal S4x5x512x512 .f32) (x1 : FVec Ideal S4x1 .f32) (x2 x3 : FVec Ideal S11x11 .f32)

/-- A copy shifted by a tap is the image, with its radii, at the bordered row and column. -/
theorem copy_apply (n : Fin 4) (ch : Fin 5) (dy dx : Fin 11) (r s : Fin 512) :
    val_main_v62 (F := Ideal) x0 x1 (ix6 n ch dy dx r s)
      = val_main_v6 (F := Ideal) x0 x1 (ix4 n ch (border ⟨dy.val + r.val, by omega⟩) (border ⟨dx.val + s.val, by omega⟩)) := by
  rw [copies_apply, rows_apply, padded_apply]

/-- The fifth channel is the radii. -/
theorem joined_radius (n : Fin 4) (r s : Fin 512) :
    val_main_v6 (F := Ideal) x0 x1 (ix4 n 4 r s) = (FloatOps.absf (F := Ideal) (φ := .f32) (x0 (ix4 n 4 r s)) : EReal) * x1 (ix2 n 0) := by
  unfold val_main_v6 val_main_v5 val_main_v4 val_main_v3 val_main_v2 val_main_v1 val_main_v0
  pointwise

/-- The other channels are the input's. -/
theorem joined_channel (n ch : Fin 4) (r s : Fin 512) :
    val_main_v6 (F := Ideal) x0 x1 (ix4 n (ch.castLE (by omega)) r s) = x0 (ix4 n (ch.castLE (by omega)) r s) := by
  unfold val_main_v6 val_main_v5 val_main_v4 val_main_v3 val_main_v2 val_main_v1 val_main_v0
  pointwise
  rw [dif_pos (by simp)]

/-- The weight of a tap at a pixel. -/
theorem weight_apply (n : Fin 4) (dy dx : Fin 11) (r s : Fin 512) :
    val_main_v76 (F := Ideal) x0 x1 x2 x3 (ix6 n 0 dy dx r s)
      = (x3 (ix2 dy dx) * min 1 (max 0 (val_main_v62 (F := Ideal) x0 x1 (ix6 n 4 dy dx r s) - x2 (ix2 dy dx) + Ideal.ofBits .f32 0x3F000000#32))
        * val_main_v62 (F := Ideal) x0 x1 (ix6 n 3 dy dx r s) : EReal) := by
  unfold val_main_v76 val_main_v75 val_main_v74 val_main_v73 val_main_v72 val_main_v71 val_main_v70 val_main_call0_v4 val_main_call0_v3
    val_main_call0_v2 val_main_call0_v1 val_main_call0_v0 val_main_v69 val_main_v68 val_main_v67 val_main_v66 val_main_v65 val_main_v64 val_main_v63
    val_main_cst val_main_cst_0 val_main_cst_1
  generalize val_main_v62 (F := Ideal) x0 x1 = y
  pointwise
  simp only [id]
  pointwise

/-- The result at a pixel. -/
theorem result_apply (n : Fin 4) (ch : Fin 3) (r s : Fin 512) :
    val_main_v85 (F := Ideal) x0 x1 x2 x3 (ix4 n ch r s)
      = Ideal.div
          (∑ dy : Fin 11, ∑ dx : Fin 11, (val_main_v76 (F := Ideal) x0 x1 x2 x3 (ix6 n 0 dy dx r s)
            * val_main_v62 (F := Ideal) x0 x1 (ix6 n (ch.castLE (by omega)) dy dx r s) : EReal))
          ((∑ dy : Fin 11, ∑ dx : Fin 11, (val_main_v76 (F := Ideal) x0 x1 x2 x3 (ix6 n 0 dy dx r s) : EReal)) + Ideal.ofBits .f32 0x358637BD#32) := by
  unfold val_main_v85 val_main_v84 val_main_v83 val_main_v82 val_main_v81 val_main_v80 val_main_v79 val_main_v78 val_main_v77
    val_main_cst_2 val_main_cst_3 val_main_cst_4
  generalize val_main_v76 (F := Ideal) x0 x1 x2 x3 = w
  generalize val_main_v62 (F := Ideal) x0 x1 = y
  pointwise
  rfl

end Cert.ReferenceIdeal.Blur

end
-- ==== Proof.Agree.lean ====
/- The kernel's blurred image and the reference's result are equal where the lens tables are those of the precondition. -/
module

public import proofs.«01_k».proof.Proof.KernelOut
public import proofs.«01_k».proof.Proof.ReferenceValue

@[expose] public section

set_option maxRecDepth 16384

noncomputable section

namespace Cert.Blur

open Idealize.ShloMosaic Idealize.ShloMosaic.Tactic
open Cert.KernelIdeal Cert.KernelIdeal.Blur

/-- The word of a tap's mask: one on the disc, zero off it. -/
theorem maskWord : ∀ dy dx : Fin 11, Cert.Pre_lens_tables.lit1 (tapIdx dy dx) = if inDisc dy dx then 0x3F800000#32 else 0x00000000#32 := by
  decide +kernel

/-- The row-major place of a tap. -/
theorem place : ∀ dy dx : Fin 11, Cert.Pre_lens_tables.S11x11.rowMajor (ix2 dy dx) = tapIdx dy dx := by
  intro dy dx
  apply Fin.ext
  rw [Shape.rowMajor_val_two]
  simp [tapIdx, ix2]
  omega

variable [Cert.Pre_lens_tables.Facts]
variable (x0 : FVec Ideal S4x5x512x512 .f32) (x1 : FVec Ideal S4x1 .f32) (x2 x3 : FVec Ideal S11x11 .f32)

/-- What the precondition says of the two tables. -/
theorem tables (h : Cert.Pre_lens_tables.fn (F := Ideal) x0 x1 x2 x3 = fun _ => 1#1) (dy dx : Fin 11) :
    x2 (ix2 dy dx) = Ideal.ofBits .f32 (tapWord dy dx) ∧ x3 (ix2 dy dx) = (if inDisc dy dx then 1 else 0 : EReal) := by
  have e := congrFun h (ix2 dy dx)
  unfold Cert.Pre_lens_tables.fn at e
  pointwise at e
  rw [place, maskWord] at e
  have both : ∀ p q : Bool, IntOp.andi (BitVec.ofBool p) (BitVec.ofBool q) = 1#1 → p = true ∧ q = true := by decide
  obtain ⟨hd, hm⟩ := both _ _ e
  refine ⟨of_decide_eq_true hd, (of_decide_eq_true hm).trans ?_⟩
  split <;> pointwise

/-- The two results are equal at every pixel. -/
theorem agree (h : Cert.Pre_lens_tables.fn (F := Ideal) x0 x1 x2 x3 = fun _ => 1#1)
    (U : FVec Ideal S4x528x640 .f32) (P : FVec Ideal S4x4x528x640 .f32)
    (hU : ∀ (b : Fin 4) (i j : Fin 522), U (ix3 b ⟨i.val, by omega⟩ ⟨j.val, by omega⟩)
      = (FloatOps.absf (F := Ideal) (φ := .f32) (x0 (ix4 b 4 (border i) (border j))) : EReal) * x1 (ix2 b 0))
    (hP : ∀ (b ch : Fin 4) (i j : Fin 522), P (ix4 b ch ⟨i.val, by omega⟩ ⟨j.val, by omega⟩) = x0 (ix4 b (ch.castLE (by omega)) (border i) (border j)))
    (n : Fin 4) (ch : Fin 3) (r s : Fin 512) :
    image U P n ch r s = Cert.ReferenceIdeal.Read.val_main_v85 (F := Ideal) x0 x1 x2 x3 (ix4 n ch r s) := by
  have eU : ∀ dy dx : Fin 11, U (ix3 n ⟨dy.val + r.val, by omega⟩ ⟨dx.val + s.val, by omega⟩)
      = Cert.ReferenceIdeal.Read.val_main_v62 (F := Ideal) x0 x1 (ix6 n 4 dy dx r s) := fun dy dx => by
    rw [Cert.ReferenceIdeal.Blur.copy_apply, Cert.ReferenceIdeal.Blur.joined_radius]
    exact hU n ⟨dy.val + r.val, by omega⟩ ⟨dx.val + s.val, by omega⟩
  have eP : ∀ (ch : Fin 4) (dy dx : Fin 11), P (ix4 n ch ⟨dy.val + r.val, by omega⟩ ⟨dx.val + s.val, by omega⟩)
      = Cert.ReferenceIdeal.Read.val_main_v62 (F := Ideal) x0 x1 (ix6 n (ch.castLE (by omega)) dy dx r s) := fun ch dy dx => by
    rw [Cert.ReferenceIdeal.Blur.copy_apply, Cert.ReferenceIdeal.Blur.joined_channel]
    exact hP n ch ⟨dy.val + r.val, by omega⟩ ⟨dx.val + s.val, by omega⟩
  have eW : ∀ dy dx : Fin 11, (if inDisc dy dx then wtap U P n r s dy dx else 0)
      = Cert.ReferenceIdeal.Read.val_main_v76 (F := Ideal) x0 x1 x2 x3 (ix6 n 0 dy dx r s) := fun dy dx => by
    rw [Cert.ReferenceIdeal.Blur.weight_apply, (tables x0 x1 x2 x3 h dy dx).1, (tables x0 x1 x2 x3 h dy dx).2]
    by_cases hd : inDisc dy dx
    · rw [if_pos hd, if_pos hd, one_mul, wtap, eU, eP, cover, min_comm, max_comm]
      rfl
    · rw [if_neg hd, if_neg hd, zero_mul, zero_mul]
  rw [Cert.ReferenceIdeal.Blur.result_apply, image]
  simp only [← eW]
  refine congrArg₂ Ideal.div (Finset.sum_congr rfl fun dy _ => Finset.sum_congr rfl fun dx _ => ?_) rfl
  by_cases hd : inDisc dy dx
  · rw [if_pos hd, if_pos hd, eP]
    rfl
  · rw [if_neg hd, if_neg hd, zero_mul]

end Cert.Blur

end
-- ==== Proof.lean ====
/- The certificate: the frames of the kernel, of the kernel over the extended reals and of the reference, and the equality of
   the last two programs' results. -/
module

public import proofs.«01_k».proof.Defs
public import proofs.«01_k».proof.Proof.KernelRun
public import proofs.«01_k».proof.Proof.KernelIdealRun
public import proofs.«01_k».proof.Proof.KernelEntry
public import proofs.«01_k».proof.Proof.Reference
public import proofs.«01_k».proof.Proof.Agree

@[expose] public section

namespace Cert.Proof

open Idealize.ShloMosaic Idealize.ShloMosaic.TcCoe Idealize.ShloMosaic.Tactic Idealize.SL.Sem
open Cert.KernelIdeal Cert.KernelIdeal.Gen Cert.KernelIdeal.Blur

/-- From memories that agree on the arguments and hold the lens tables, the two programs end with equal results. -/
theorem equal_results [Cert.Pre_lens_tables.Facts] : Cert.algebraic_KernelIdeal_ReferenceIdeal_pre_lens_tables := by
  intro m g m' g' hpre hargs
  refine ⟨fun c => (Run.dat1 (Run.V3 m g) c).arrAt 2 cfg1.N, (θ_run defs _ _).mono (fun r h => h.1) (Run.run m g),
    (θ_run Cert.ReferenceIdeal.defs _ _).mono (fun r h c => ⟨(h c).1.trans ?_, (h c).2⟩) (Cert.ReferenceIdeal.Value.run m' g')⟩
  refine (Cert.ReferenceIdeal.Read.val_main_v85_eq (StableHlo.launchContents m' c)).trans ?_
  refine Eq.trans ?_ (blur_final (Run.V3 m g) c).symm
  obtain ⟨h0, h1, h2, h3⟩ := hargs c
  rw [StableHlo.launchContents_devRef, StableHlo.launchContents_devRef, StableHlo.launchContents_devRef, StableHlo.launchContents_devRef,
    h0, h1, h2, h3]
  funext i
  refine Eq.trans (congrArg _ ?_) (Cert.Blur.agree _ _ _ _ (hpre c) _ _ (entry_radius m g c) (entry_channels m g c) (i 0) (i 1) (i 2) (i 3)).symm
  funext a
  fin_cases a <;> rfl

end Cert.Proof

theorem Cert.Proof.claim : Cert.Claim :=
  ⟨Cert.Kernel.Gen.facts, Cert.KernelIdeal.Gen.facts, Cert.ReferenceIdeal.Gen.facts, Cert.Pre_lens_tables.Facts.mk,
    fun m ρ _ => Cert.Kernel.Run.frame m ρ,
    fun m ρ _ => Cert.KernelIdeal.Run.frame m ρ,
    fun m ρ _ => Cert.KernelIdeal.Run.frame m ρ,
    fun m ρ _ => Cert.ReferenceIdeal.Ref.frame m ρ,
    fun m ρ _ => Cert.ReferenceIdeal.Ref.frame m ρ,
    trivial, @Cert.Proof.equal_results Cert.Pre_lens_tables.Facts.mk⟩
